-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_fit [hPre_inputs_fit : Cert.Pre_inputs_fit.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_fit [hPre_inputs_fit : Cert.Pre_inputs_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_inputs_fit [hKernelIdeal : Cert.KernelIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_fit m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_inputs_fit [hReferenceIdeal : Cert.ReferenceIdeal.Facts] [hPre_inputs_fit : Cert.Pre_inputs_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal_pre_inputs_fit [hKernelIdeal : Cert.KernelIdeal.Facts] [hReferenceIdeal : Cert.ReferenceIdeal.Facts] [hPre_inputs_fit : Cert.Pre_inputs_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_fit m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v53)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v53) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_inputs_fit : Cert.Pre_inputs_fit.Facts),
    quiescent_Kernel (hKernel := hKernel)
    ∧ quiescent_KernelIdeal (hKernelIdeal := hKernelIdeal)
    ∧ quiescent_KernelIdeal_pre_inputs_fit (hKernelIdeal := hKernelIdeal) (hPre_inputs_fit := hPre_inputs_fit)
    ∧ quiescent_ReferenceIdeal (hReferenceIdeal := hReferenceIdeal)
    ∧ quiescent_ReferenceIdeal_pre_inputs_fit (hReferenceIdeal := hReferenceIdeal) (hPre_inputs_fit := hPre_inputs_fit)
    ∧ preserves_Kernel_KernelIdeal
    ∧ algebraic_KernelIdeal_ReferenceIdeal_pre_inputs_fit (hKernelIdeal := hKernelIdeal) (hReferenceIdeal := hReferenceIdeal) (hPre_inputs_fit := hPre_inputs_fit)
-- ==== Pre_inputs_fit.lean ====
abbrev S131072x1 : Shape := ⟨2, ![131072, 1]⟩
abbrev S17 : Shape := ⟨1, ![17]⟩
abbrev S262144x128 : Shape := ⟨2, ![262144, 128]⟩
abbrev S128x1 : Shape := ⟨2, ![128, 1]⟩
abbrev S128 : Shape := ⟨1, ![128]⟩
abbrev S_ : Shape := ⟨0, ![]⟩

class Facts : Prop where
  bcast_S_S131072x1 : S_.BroadcastsInDim S131072x1 (![] : Fin 0 → Fin S131072x1.rank)
  reducesTo_S131072x1_S_d0_1 : S131072x1.ReducesTo [0, 1] S_
  h_S_ : 0 < S_.numel
  bcast_S_S128x1 : S_.BroadcastsInDim S128x1 (![] : Fin 0 → Fin S128x1.rank)
  reducesTo_S128x1_S_d0_1 : S128x1.ReducesTo [0, 1] S_
  bcast_S_S128 : S_.BroadcastsInDim S128 (![] : Fin 0 → Fin S128.rank)
  reducesTo_S128_S_d0 : S128.ReducesTo [0] S_

variable [Facts]

def fn {F : FTy → Type} [FloatOps F] (main_arg0 : FVec F S131072x1 .f32) (main_arg1 : IVec S17 32) (main_arg2 : FVec F S262144x128 .f32) (main_arg3 : FVec F S128x1 .f32) (main_arg4 : FVec F S128 .f32) : IVec S_ 1 :=
  let main_v0 : FVec F S131072x1 .f32 := Host.absf main_arg0
  let main_cst : FVec F S_ .f32 := constant S_ .f32 0x7F800000#32
  let main_v1 : FVec F S131072x1 .f32 := broadcastInDim S131072x1 ![] bcast_S_S131072x1 main_cst
  let main_v2 : IVec S131072x1 1 := cmpf .olt main_v0 main_v1
  let main_c : IVec S_ 1 := constantI S_ 1 1#1
  let main_v3 : IVec S_ 1 := (fun x v => Host.reduce IntOp.andi x v reducesTo_S131072x1_S_d0_1 h_S_) main_v2 main_c
  let main_v4 : FVec F S128x1 .f32 := Host.absf main_arg3
  let main_cst_0 : FVec F S_ .f32 := constant S_ .f32 0x7F800000#32
  let main_v5 : FVec F S128x1 .f32 := broadcastInDim S128x1 ![] bcast_S_S128x1 main_cst_0
  let main_v6 : IVec S128x1 1 := cmpf .olt main_v4 main_v5
  let main_c_1 : IVec S_ 1 := constantI S_ 1 1#1
  let main_v7 : IVec S_ 1 := (fun x v => Host.reduce IntOp.andi x v reducesTo_S128x1_S_d0_1 h_S_) main_v6 main_c_1
  let main_v8 : FVec F S128 .f32 := Host.absf main_arg4
  let main_cst_2 : FVec F S_ .f32 := constant S_ .f32 0x7F800000#32
  let main_v9 : FVec F S128 .f32 := broadcastInDim S128 ![] bcast_S_S128 main_cst_2
  let main_v10 : IVec S128 1 := cmpf .olt main_v8 main_v9
  let main_c_3 : IVec S_ 1 := constantI S_ 1 1#1
  let main_v11 : IVec S_ 1 := (fun x v => Host.reduce IntOp.andi x v reducesTo_S128_S_d0 h_S_) main_v10 main_c_3
  let main_v12 : IVec S_ 1 := andi main_v3 main_v7
  let main_v13 : IVec S_ 1 := andi main_v12 main_v11
  main_v13
-- ==== Kernel.lean ====
abbrev S131072x1 : Shape := ⟨2, ![131072, 1]⟩
abbrev S17 : Shape := ⟨1, ![17]⟩
abbrev S262144x128 : Shape := ⟨2, ![262144, 128]⟩
abbrev S128x1 : Shape := ⟨2, ![128, 1]⟩
abbrev S128 : Shape := ⟨1, ![128]⟩
abbrev S16 : Shape := ⟨1, ![16]⟩
abbrev S_ : Shape := ⟨0, ![]⟩
abbrev S16x1 : Shape := ⟨2, ![16, 1]⟩
abbrev S16x2 : Shape := ⟨2, ![16, 2]⟩
abbrev S1x16 : Shape := ⟨2, ![1, 16]⟩
abbrev S1 : Shape := ⟨1, ![1]⟩
abbrev S15 : Shape := ⟨1, ![15]⟩
abbrev S1x128 : Shape := ⟨2, ![1, 128]⟩
abbrev S16x2048x128 : Shape := ⟨3, ![16, 2048, 128]⟩
abbrev S16x1024x1 : Shape := ⟨3, ![16, 1024, 1]⟩
abbrev S8 : Shape := ⟨1, ![8]⟩
abbrev S1x2048x128 : Shape := ⟨3, ![1, 2048, 128]⟩
abbrev S2048x128 : Shape := ⟨2, ![2048, 128]⟩
abbrev S1x1024x1 : Shape := ⟨3, ![1, 1024, 1]⟩
abbrev S1024x1 : Shape := ⟨2, ![1024, 1]⟩
abbrev S1024x128 : Shape := ⟨2, ![1024, 128]⟩
abbrev S1x1024x128 : Shape := ⟨3, ![1, 1024, 128]⟩
abbrev S1x1 : Shape := ⟨2, ![1, 1]⟩
abbrev S8x1 : Shape := ⟨2, ![8, 1]⟩
abbrev S1x8x128 : Shape := ⟨3, ![1, 8, 128]⟩
abbrev S8x128 : Shape := ⟨2, ![8, 128]⟩

abbrev nBuf : Space → Nat
  | .hbm => 78
  | .vmem => 4
  | .smem => 2
  | _ => 0

abbrev bufTy : (tb : Table) → Fin (tcTables nBuf tb) → BufTy
  | .hbm, ⟨0, _⟩ => ⟨S131072x1, .f32⟩
  | .hbm, ⟨1, _⟩ => ⟨S17, .i32⟩
  | .hbm, ⟨2, _⟩ => ⟨S262144x128, .f32⟩
  | .hbm, ⟨3, _⟩ => ⟨S128x1, .f32⟩
  | .hbm, ⟨4, _⟩ => ⟨S128, .f32⟩
  | .hbm, ⟨5, _⟩ => ⟨S16, .i32⟩
  | .hbm, ⟨6, _⟩ => ⟨S_, .i32⟩
  | .hbm, ⟨7, _⟩ => ⟨S16, .i32⟩
  | .hbm, ⟨8, _⟩ => ⟨S16, .i32⟩
  | .hbm, ⟨9, _⟩ => ⟨S_, .i32⟩
  | .hbm, ⟨10, _⟩ => ⟨S16, .i32⟩
  | .hbm, ⟨11, _⟩ => ⟨S16, .i1⟩
  | .hbm, ⟨12, _⟩ => ⟨S_, .i32⟩
  | .hbm, ⟨13, _⟩ => ⟨S16, .i32⟩
  | .hbm, ⟨14, _⟩ => ⟨S16, .i32⟩
  | .hbm, ⟨15, _⟩ => ⟨S16, .i32⟩
  | .hbm, ⟨16, _⟩ => ⟨S_, .i32⟩
  | .hbm, ⟨17, _⟩ => ⟨S16, .i32⟩
  | .hbm, ⟨18, _⟩ => ⟨S16, .i1⟩
  | .hbm, ⟨19, _⟩ => ⟨S_, .i32⟩
  | .hbm, ⟨20, _⟩ => ⟨S16, .i32⟩
  | .hbm, ⟨21, _⟩ => ⟨S16, .i32⟩
  | .hbm, ⟨22, _⟩ => ⟨S16, .i32⟩
  | .hbm, ⟨23, _⟩ => ⟨S_, .i32⟩
  | .hbm, ⟨24, _⟩ => ⟨S16, .i32⟩
  | .hbm, ⟨25, _⟩ => ⟨S16, .i32⟩
  | .hbm, ⟨26, _⟩ => ⟨S16x1, .i32⟩
  | .hbm, ⟨27, _⟩ => ⟨S16x1, .i32⟩
  | .hbm, ⟨28, _⟩ => ⟨S16x2, .i32⟩
  | .hbm, ⟨29, _⟩ => ⟨S16, .f32⟩
  | .hbm, ⟨30, _⟩ => ⟨S1x16, .f32⟩
  | .hbm, ⟨31, _⟩ => ⟨S_, .i32⟩
  | .hbm, ⟨32, _⟩ => ⟨S16, .i32⟩
  | .hbm, ⟨33, _⟩ => ⟨S16, .i32⟩
  | .hbm, ⟨34, _⟩ => ⟨S_, .i32⟩
  | .hbm, ⟨35, _⟩ => ⟨S16, .i32⟩
  | .hbm, ⟨36, _⟩ => ⟨S16, .i32⟩
  | .hbm, ⟨37, _⟩ => ⟨S16, .i32⟩
  | .hbm, ⟨38, _⟩ => ⟨S16, .i32⟩
  | .hbm, ⟨39, _⟩ => ⟨S16, .i32⟩
  | .hbm, ⟨40, _⟩ => ⟨S_, .i32⟩
  | .hbm, ⟨41, _⟩ => ⟨S16, .i32⟩
  | .hbm, ⟨42, _⟩ => ⟨S16, .i1⟩
  | .hbm, ⟨43, _⟩ => ⟨S_, .i32⟩
  | .hbm, ⟨44, _⟩ => ⟨S16, .i32⟩
  | .hbm, ⟨45, _⟩ => ⟨S16, .i32⟩
  | .hbm, ⟨46, _⟩ => ⟨S16, .i32⟩
  | .hbm, ⟨47, _⟩ => ⟨S16x1, .i32⟩
  | .hbm, ⟨48, _⟩ => ⟨S16, .i32⟩
  | .hbm, ⟨49, _⟩ => ⟨S_, .i1⟩
  | .hbm, ⟨50, _⟩ => ⟨S1, .i1⟩
  | .hbm, ⟨51, _⟩ => ⟨S15, .i32⟩
  | .hbm, ⟨52, _⟩ => ⟨S15, .i32⟩
  | .hbm, ⟨53, _⟩ => ⟨S15, .i1⟩
  | .hbm, ⟨54, _⟩ => ⟨S16, .i1⟩
  | .hbm, ⟨55, _⟩ => ⟨S_, .i32⟩
  | .hbm, ⟨56, _⟩ => ⟨S_, .i32⟩
  | .hbm, ⟨57, _⟩ => ⟨S16, .i32⟩
  | .hbm, ⟨58, _⟩ => ⟨S16, .i32⟩
  | .hbm, ⟨59, _⟩ => ⟨S1x16, .i32⟩
  | .hbm, ⟨60, _⟩ => ⟨S_, .i32⟩
  | .hbm, ⟨61, _⟩ => ⟨S16, .i32⟩
  | .hbm, ⟨62, _⟩ => ⟨S16, .i1⟩
  | .hbm, ⟨63, _⟩ => ⟨S_, .i32⟩
  | .hbm, ⟨64, _⟩ => ⟨S16, .i32⟩
  | .hbm, ⟨65, _⟩ => ⟨S16, .i32⟩
  | .hbm, ⟨66, _⟩ => ⟨S16, .i32⟩
  | .hbm, ⟨67, _⟩ => ⟨S_, .i32⟩
  | .hbm, ⟨68, _⟩ => ⟨S16, .i32⟩
  | .hbm, ⟨69, _⟩ => ⟨S16, .i32⟩
  | .hbm, ⟨70, _⟩ => ⟨S16x1, .i32⟩
  | .hbm, ⟨71, _⟩ => ⟨S16x1, .i32⟩
  | .hbm, ⟨72, _⟩ => ⟨S16x2, .i32⟩
  | .hbm, ⟨73, _⟩ => ⟨S16, .f32⟩
  | .hbm, ⟨74, _⟩ => ⟨S1x16, .f32⟩
  | .hbm, ⟨75, _⟩ => ⟨S1x128, .f32⟩
  | .hbm, ⟨76, _⟩ => ⟨S1x128, .f32⟩
  | .hbm, ⟨77, _⟩ => ⟨S262144x128, .f32⟩
  | .local _ .vmem, ⟨0, _⟩ => ⟨S1x128, .f32⟩
  | .local _ .vmem, ⟨1, _⟩ => ⟨S1x128, .f32⟩
  | .local _ .vmem, ⟨2, _⟩ => ⟨S16x2048x128, .f32⟩
  | .local _ .vmem, ⟨3, _⟩ => ⟨S16x1024x1, .f32⟩
  | .local _ .smem, ⟨0, _⟩ => ⟨S1x16, .i32⟩
  | .local _ .smem, ⟨1, _⟩ => ⟨S1x16, .f32⟩
  | _, _ => ⟨S131072x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c_2 : Ref sig .tc := ⟨.hbm, 16, rfl⟩
abbrev main_v8 : Ref sig .tc := ⟨.hbm, 17, rfl⟩
abbrev main_v9 : Ref sig .tc := ⟨.hbm, 18, rfl⟩
abbrev main_c_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_c_4 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_call1_v0 : Ref sig .tc := ⟨.hbm, 37, rfl⟩
abbrev main_call1_v1_0 : Ref sig .tc := ⟨.hbm, 38, rfl⟩
abbrev main_v24 : Ref sig .tc := ⟨.hbm, 39, rfl⟩
abbrev main_c_7 : Ref sig .tc := ⟨.hbm, 40, rfl⟩
abbrev main_v25 : Ref sig .tc := ⟨.hbm, 41, rfl⟩
abbrev main_v26 : Ref sig .tc := ⟨.hbm, 42, rfl⟩
abbrev main_c_8 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_9 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_10 : Ref sig .tc := ⟨.hbm, 55, rfl⟩
abbrev main_call2_v0 : Ref sig .tc := ⟨.hbm, 56, rfl⟩
abbrev main_call2_v1 : Ref sig .tc := ⟨.hbm, 57, rfl⟩
abbrev main_v37 : Ref sig .tc := ⟨.hbm, 58, rfl⟩
abbrev main_v38 : Ref sig .tc := ⟨.hbm, 59, rfl⟩
abbrev main_c_11 : Ref sig .tc := ⟨.hbm, 60, rfl⟩
abbrev main_v39 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_13 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev cc0_stg2_0 : Ref sig .tc := ⟨.vmem, 0, rfl⟩
abbrev cc0_stg3_0 : Ref sig .tc := ⟨.vmem, 1, rfl⟩
abbrev cc0_scratch0 : Ref sig .tc := ⟨.vmem, 2, rfl⟩
abbrev cc0_scratch1 : Ref sig .tc := ⟨.vmem, 3, rfl⟩
abbrev cc0_stg0_0 : Ref sig .tc := ⟨.smem, 0, rfl⟩
abbrev cc0_stg1_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

def k0_off1 (c0_i32_0 : BitVec 32) : Fin 1 → Nat :=
  let c8_i32 : BitVec 32 := 8#32
  let v1 : BitVec 32 := Scalar.remsi c0_i32_0 c8_i32
  ![v1.toNat]
def k0_off1_at (r : Fin 16) : BitVec 32 :=
  if r.val < 8 then
    if r.val < 4 then
      if r.val < 2 then
        if r.val < 1 then
          0#32
        else
          1#32
      else
        if r.val < 3 then
          2#32
        else
          3#32
    else
      if r.val < 6 then
        if r.val < 5 then
          4#32
        else
          5#32
      else
        if r.val < 7 then
          6#32
        else
          7#32
  else
    if r.val < 12 then
      if r.val < 10 then
        if r.val < 9 then
          120#32
        else
          121#32
      else
        if r.val < 11 then
          122#32
        else
          123#32
    else
      if r.val < 14 then
        if r.val < 13 then
          124#32
        else
          125#32
      else
        if r.val < 15 then
          126#32
        else
          127#32
def k0_off2 (c0_i32 : BitVec 32) : Fin 3 → Nat :=
  let c16_i32 : BitVec 32 := 16#32
  let v0 : BitVec 32 := Scalar.remsi c0_i32 c16_i32
  let c0_i32_1 : BitVec 32 := 0#32
  let c0_i32_2 : BitVec 32 := 0#32
  ![v0.toNat, 0, 0]
def k0_off2_at (r : Fin 16) : BitVec 32 :=
  if r.val < 8 then
    if r.val < 4 then
      if r.val < 2 then
        if r.val < 1 then
          0#32
        else
          1#32
      else
        if r.val < 3 then
          2#32
        else
          3#32
    else
      if r.val < 6 then
        if r.val < 5 then
          4#32
        else
          5#32
      else
        if r.val < 7 then
          6#32
        else
          7#32
  else
    if r.val < 12 then
      if r.val < 10 then
        if r.val < 9 then
          120#32
        else
          121#32
      else
        if r.val < 11 then
          122#32
        else
          123#32
    else
      if r.val < 14 then
        if r.val < 13 then
          124#32
        else
          125#32
      else
        if r.val < 15 then
          126#32
        else
          127#32
def k0_off3 (c0_i32_5 : BitVec 32) : Fin 3 → Nat :=
  let c16_i32_6 : BitVec 32 := 16#32
  let v7 : BitVec 32 := Scalar.remsi c0_i32_5 c16_i32_6
  let c0_i32_9 : BitVec 32 := 0#32
  let c0_i32_10 : BitVec 32 := 0#32
  ![v7.toNat, 0, 0]
@[reducible] def k0_t1_loop : Scf.Loop 32 :=
  let c0_i32_107 : BitVec 32 := 0#32
  let c128_i32 : BitVec 32 := 128#32
  let v112 : BitVec 32 := Scalar.addi c0_i32_107 c128_i32
  let c1_i32_108 : BitVec 32 := 1#32
  ⟨c0_i32_107, v112, c1_i32_108⟩
def k0_off4 (k0_t1 : Fin k0_t1_loop.trips) : Fin 1 → Nat :=
  let c0_i32_107 : BitVec 32 := 0#32
  let c1_i32_108 : BitVec 32 := 1#32
  let arg12 : BitVec 32 := Scf.iv c0_i32_107 c1_i32_108 k0_t1
  let c8_i32_161 : BitVec 32 := 8#32
  let v172 : BitVec 32 := Scalar.remsi arg12 c8_i32_161
  ![v172.toNat]
def k0_off5 (k0_t1 : Fin k0_t1_loop.trips) : Fin 3 → Nat :=
  let c0_i32_107 : BitVec 32 := 0#32
  let c1_i32_108 : BitVec 32 := 1#32
  let arg12 : BitVec 32 := Scf.iv c0_i32_107 c1_i32_108 k0_t1
  let c16_i32_159 : BitVec 32 := 16#32
  let v170 : BitVec 32 := Scalar.remsi arg12 c16_i32_159
  let c0_i32_162 : BitVec 32 := 0#32
  let c0_i32_163 : BitVec 32 := 0#32
  ![v170.toNat, 0, 0]
def k0_off6 (k0_t1 : Fin k0_t1_loop.trips) : Fin 2 → Nat :=
  let c0_i32_107 : BitVec 32 := 0#32
  let c1_i32_108 : BitVec 32 := 1#32
  let arg12 : BitVec 32 := Scf.iv c0_i32_107 c1_i32_108 k0_t1
  let c2048_i32_160 : BitVec 32 := 2048#32
  let v171 : BitVec 32 := Scalar.muli arg12 c2048_i32_160
  let c0_i32_164 : BitVec 32 := 0#32
  ![v171.toNat, 0]
def k0_off7 (k0_t1 : Fin k0_t1_loop.trips) : Fin 3 → Nat :=
  let c0_i32_107 : BitVec 32 := 0#32
  let c1_i32_108 : BitVec 32 := 1#32
  let arg12 : BitVec 32 := Scf.iv c0_i32_107 c1_i32_108 k0_t1
  let c16_i32_165 : BitVec 32 := 16#32
  let v178 : BitVec 32 := Scalar.remsi arg12 c16_i32_165
  let c0_i32_168 : BitVec 32 := 0#32
  let c0_i32_169 : BitVec 32 := 0#32
  ![v178.toNat, 0, 0]
def k0_off8 (k0_t1 : Fin k0_t1_loop.trips) : Fin 2 → Nat :=
  let c0_i32_107 : BitVec 32 := 0#32
  let c1_i32_108 : BitVec 32 := 1#32
  let arg12 : BitVec 32 := Scf.iv c0_i32_107 c1_i32_108 k0_t1
  let c1024_i32_166 : BitVec 32 := 1024#32
  let v179 : BitVec 32 := Scalar.muli arg12 c1024_i32_166
  let c0_i32_170 : BitVec 32 := 0#32
  ![v179.toNat, 0]
def k0_cond1 (k0_t1 : Fin k0_t1_loop.trips) : BitVec 1 :=
  let c0_i32_107 : BitVec 32 := 0#32
  let c1_i32_108 : BitVec 32 := 1#32
  let arg12 : BitVec 32 := Scf.iv c0_i32_107 c1_i32_108 k0_t1
  let c8_i32_171 : BitVec 32 := 8#32
  let v186 : BitVec 1 := Scalar.cmpi .sge arg12 c8_i32_171
  let v187 : BitVec 32 := Scalar.extui v186
  let c0_i32_172 : BitVec 32 := 0#32
  let v188 : BitVec 1 := Scalar.cmpi .ne v187 c0_i32_172
  v188

def k0_off9 (k0_t1 : Fin k0_t1_loop.trips) : Fin 1 → Nat :=
  let c0_i32_107 : BitVec 32 := 0#32
  let c1_i32_108 : BitVec 32 := 1#32
  let arg12 : BitVec 32 := Scf.iv c0_i32_107 c1_i32_108 k0_t1
  let c8_i32_257 : BitVec 32 := 8#32
  let v334 : BitVec 32 := Scalar.subi arg12 c8_i32_257
  let c8_i32_260 : BitVec 32 := 8#32
  let v337 : BitVec 32 := Scalar.remsi v334 c8_i32_260
  ![v337.toNat]
def k0_off10 (k0_t1 : Fin k0_t1_loop.trips) : Fin 2 → Nat :=
  let c0_i32_107 : BitVec 32 := 0#32
  let c1_i32_108 : BitVec 32 := 1#32
  let arg12 : BitVec 32 := Scf.iv c0_i32_107 c1_i32_108 k0_t1
  let c8_i32_257 : BitVec 32 := 8#32
  let v334 : BitVec 32 := Scalar.subi arg12 c8_i32_257
  let c2048_i32_259 : BitVec 32 := 2048#32
  let v336 : BitVec 32 := Scalar.muli v334 c2048_i32_259
  let c0_i32_261 : BitVec 32 := 0#32
  ![v336.toNat, 0]
def k0_off11 (k0_t1 : Fin k0_t1_loop.trips) : Fin 3 → Nat :=
  let c0_i32_107 : BitVec 32 := 0#32
  let c1_i32_108 : BitVec 32 := 1#32
  let arg12 : BitVec 32 := Scf.iv c0_i32_107 c1_i32_108 k0_t1
  let c8_i32_257 : BitVec 32 := 8#32
  let v334 : BitVec 32 := Scalar.subi arg12 c8_i32_257
  let c16_i32_258 : BitVec 32 := 16#32
  let v335 : BitVec 32 := Scalar.remsi v334 c16_i32_258
  let c0_i32_262 : BitVec 32 := 0#32
  let c0_i32_263 : BitVec 32 := 0#32
  ![v335.toNat, 0, 0]
def k0_off12 (k0_t1 : Fin k0_t1_loop.trips) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v190 : Index := Scalar.indexCast v169
  let c0 : Index := 0#32
  let c0_174 : Index := 0#32
  ![v190.toNat, 0, 0]
def k0_off13 (k0_t1 : Fin k0_t1_loop.trips) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v202 : Index := Scalar.indexCast v169
  let c1 : Index := 1#32
  let c0_179 : Index := 0#32
  ![v202.toNat, 1, 0]
def k0_off14 (k0_t1 : Fin k0_t1_loop.trips) (v210 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v211 : BitVec 32 := Scalar.subi v210 v189
  let v334 : BitVec 32 := Scalar.maxsi c0_i32_257 v211
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond2 (k0_t1 : Fin k0_t1_loop.trips) (v210 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v211 : BitVec 32 := Scalar.subi v210 v189
  let c0_i32_184 : BitVec 32 := 0#32
  let v212 : BitVec 1 := Scalar.cmpi .sge v211 c0_i32_184
  let c2048_i32_185 : BitVec 32 := 2048#32
  let v213 : BitVec 1 := Scalar.cmpi .slt v211 c2048_i32_185
  let v214 : BitVec 1 := Scalar.andi v212 v213
  let v215 : BitVec 32 := Scalar.extui v214
  let c0_i32_186 : BitVec 32 := 0#32
  let v216 : BitVec 1 := Scalar.cmpi .ne v215 c0_i32_186
  v216

def k0_chk1 (k0_t1 : Fin k0_t1_loop.trips) (v210 : BitVec 32) : Prop :=
  (∀ (k0_h2 : k0_cond2 k0_t1 v210 = 1#1), ∀ a, (k0_off14 k0_t1 v210) a + S1x8x128.size a ≤ S16x2048x128.size a)
theorem k0_off14_inb : ∀ (k0_t1 : Fin k0_t1_loop.trips) (v210 : BitVec 32) (k0_hw1 : k0_chk1 k0_t1 v210), ∀ (k0_h2 : k0_cond2 k0_t1 v210 = 1#1), ∀ a, (k0_off14 k0_t1 v210) a + S1x8x128.size a ≤ S16x2048x128.size a := fun k0_t1 v210 k0_hw1 k0_h2 => k0_hw1 k0_h2

def k0_off15 (k0_t1 : Fin k0_t1_loop.trips) (v217 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v218 : BitVec 32 := Scalar.subi v217 v189
  let v334 : BitVec 32 := Scalar.maxsi c0_i32_257 v218
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond3 (k0_t1 : Fin k0_t1_loop.trips) (v217 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v218 : BitVec 32 := Scalar.subi v217 v189
  let c0_i32_189 : BitVec 32 := 0#32
  let v219 : BitVec 1 := Scalar.cmpi .sge v218 c0_i32_189
  let c2048_i32_190 : BitVec 32 := 2048#32
  let v220 : BitVec 1 := Scalar.cmpi .slt v218 c2048_i32_190
  let v221 : BitVec 1 := Scalar.andi v219 v220
  let v222 : BitVec 32 := Scalar.extui v221
  let c0_i32_191 : BitVec 32 := 0#32
  let v223 : BitVec 1 := Scalar.cmpi .ne v222 c0_i32_191
  v223

def k0_chk2 (k0_t1 : Fin k0_t1_loop.trips) (v217 : BitVec 32) : Prop :=
  (∀ (k0_h3 : k0_cond3 k0_t1 v217 = 1#1), ∀ a, (k0_off15 k0_t1 v217) a + S1x8x128.size a ≤ S16x2048x128.size a)
theorem k0_off15_inb : ∀ (k0_t1 : Fin k0_t1_loop.trips) (v217 : BitVec 32) (k0_hw2 : k0_chk2 k0_t1 v217), ∀ (k0_h3 : k0_cond3 k0_t1 v217 = 1#1), ∀ a, (k0_off15 k0_t1 v217) a + S1x8x128.size a ≤ S16x2048x128.size a := fun k0_t1 v217 k0_hw2 k0_h3 => k0_hw2 k0_h3

def k0_off16 (k0_t1 : Fin k0_t1_loop.trips) (v224 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v225 : BitVec 32 := Scalar.subi v224 v189
  let v334 : BitVec 32 := Scalar.maxsi c0_i32_257 v225
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond4 (k0_t1 : Fin k0_t1_loop.trips) (v224 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v225 : BitVec 32 := Scalar.subi v224 v189
  let c0_i32_193 : BitVec 32 := 0#32
  let v226 : BitVec 1 := Scalar.cmpi .sge v225 c0_i32_193
  let c2048_i32_194 : BitVec 32 := 2048#32
  let v227 : BitVec 1 := Scalar.cmpi .slt v225 c2048_i32_194
  let v228 : BitVec 1 := Scalar.andi v226 v227
  let v229 : BitVec 32 := Scalar.extui v228
  let c0_i32_195 : BitVec 32 := 0#32
  let v230 : BitVec 1 := Scalar.cmpi .ne v229 c0_i32_195
  v230

def k0_chk3 (k0_t1 : Fin k0_t1_loop.trips) (v224 : BitVec 32) : Prop :=
  (∀ (k0_h4 : k0_cond4 k0_t1 v224 = 1#1), ∀ a, (k0_off16 k0_t1 v224) a + S1x8x128.size a ≤ S16x2048x128.size a)
theorem k0_off16_inb : ∀ (k0_t1 : Fin k0_t1_loop.trips) (v224 : BitVec 32) (k0_hw3 : k0_chk3 k0_t1 v224), ∀ (k0_h4 : k0_cond4 k0_t1 v224 = 1#1), ∀ a, (k0_off16 k0_t1 v224) a + S1x8x128.size a ≤ S16x2048x128.size a := fun k0_t1 v224 k0_hw3 k0_h4 => k0_hw3 k0_h4

def k0_off17 (k0_t1 : Fin k0_t1_loop.trips) (v231 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v232 : BitVec 32 := Scalar.subi v231 v189
  let v334 : BitVec 32 := Scalar.maxsi c0_i32_257 v232
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond5 (k0_t1 : Fin k0_t1_loop.trips) (v231 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v232 : BitVec 32 := Scalar.subi v231 v189
  let c0_i32_197 : BitVec 32 := 0#32
  let v233 : BitVec 1 := Scalar.cmpi .sge v232 c0_i32_197
  let c2048_i32_198 : BitVec 32 := 2048#32
  let v234 : BitVec 1 := Scalar.cmpi .slt v232 c2048_i32_198
  let v235 : BitVec 1 := Scalar.andi v233 v234
  let v236 : BitVec 32 := Scalar.extui v235
  let c0_i32_199 : BitVec 32 := 0#32
  let v237 : BitVec 1 := Scalar.cmpi .ne v236 c0_i32_199
  v237

def k0_chk4 (k0_t1 : Fin k0_t1_loop.trips) (v231 : BitVec 32) : Prop :=
  (∀ (k0_h5 : k0_cond5 k0_t1 v231 = 1#1), ∀ a, (k0_off17 k0_t1 v231) a + S1x8x128.size a ≤ S16x2048x128.size a)
theorem k0_off17_inb : ∀ (k0_t1 : Fin k0_t1_loop.trips) (v231 : BitVec 32) (k0_hw4 : k0_chk4 k0_t1 v231), ∀ (k0_h5 : k0_cond5 k0_t1 v231 = 1#1), ∀ a, (k0_off17 k0_t1 v231) a + S1x8x128.size a ≤ S16x2048x128.size a := fun k0_t1 v231 k0_hw4 k0_h5 => k0_hw4 k0_h5

def k0_off18 (k0_t1 : Fin k0_t1_loop.trips) (v238 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v239 : BitVec 32 := Scalar.subi v238 v189
  let v334 : BitVec 32 := Scalar.maxsi c0_i32_257 v239
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond6 (k0_t1 : Fin k0_t1_loop.trips) (v238 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v239 : BitVec 32 := Scalar.subi v238 v189
  let c0_i32_201 : BitVec 32 := 0#32
  let v240 : BitVec 1 := Scalar.cmpi .sge v239 c0_i32_201
  let c2048_i32_202 : BitVec 32 := 2048#32
  let v241 : BitVec 1 := Scalar.cmpi .slt v239 c2048_i32_202
  let v242 : BitVec 1 := Scalar.andi v240 v241
  let v243 : BitVec 32 := Scalar.extui v242
  let c0_i32_203 : BitVec 32 := 0#32
  let v244 : BitVec 1 := Scalar.cmpi .ne v243 c0_i32_203
  v244

def k0_chk5 (k0_t1 : Fin k0_t1_loop.trips) (v238 : BitVec 32) : Prop :=
  (∀ (k0_h6 : k0_cond6 k0_t1 v238 = 1#1), ∀ a, (k0_off18 k0_t1 v238) a + S1x8x128.size a ≤ S16x2048x128.size a)
theorem k0_off18_inb : ∀ (k0_t1 : Fin k0_t1_loop.trips) (v238 : BitVec 32) (k0_hw5 : k0_chk5 k0_t1 v238), ∀ (k0_h6 : k0_cond6 k0_t1 v238 = 1#1), ∀ a, (k0_off18 k0_t1 v238) a + S1x8x128.size a ≤ S16x2048x128.size a := fun k0_t1 v238 k0_hw5 k0_h6 => k0_hw5 k0_h6

def k0_off19 (k0_t1 : Fin k0_t1_loop.trips) (v245 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v246 : BitVec 32 := Scalar.subi v245 v189
  let v334 : BitVec 32 := Scalar.maxsi c0_i32_257 v246
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond7 (k0_t1 : Fin k0_t1_loop.trips) (v245 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v246 : BitVec 32 := Scalar.subi v245 v189
  let c0_i32_205 : BitVec 32 := 0#32
  let v247 : BitVec 1 := Scalar.cmpi .sge v246 c0_i32_205
  let c2048_i32_206 : BitVec 32 := 2048#32
  let v248 : BitVec 1 := Scalar.cmpi .slt v246 c2048_i32_206
  let v249 : BitVec 1 := Scalar.andi v247 v248
  let v250 : BitVec 32 := Scalar.extui v249
  let c0_i32_207 : BitVec 32 := 0#32
  let v251 : BitVec 1 := Scalar.cmpi .ne v250 c0_i32_207
  v251

def k0_chk6 (k0_t1 : Fin k0_t1_loop.trips) (v245 : BitVec 32) : Prop :=
  (∀ (k0_h7 : k0_cond7 k0_t1 v245 = 1#1), ∀ a, (k0_off19 k0_t1 v245) a + S1x8x128.size a ≤ S16x2048x128.size a)
theorem k0_off19_inb : ∀ (k0_t1 : Fin k0_t1_loop.trips) (v245 : BitVec 32) (k0_hw6 : k0_chk6 k0_t1 v245), ∀ (k0_h7 : k0_cond7 k0_t1 v245 = 1#1), ∀ a, (k0_off19 k0_t1 v245) a + S1x8x128.size a ≤ S16x2048x128.size a := fun k0_t1 v245 k0_hw6 k0_h7 => k0_hw6 k0_h7

def k0_off20 (k0_t1 : Fin k0_t1_loop.trips) (v252 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v253 : BitVec 32 := Scalar.subi v252 v189
  let v334 : BitVec 32 := Scalar.maxsi c0_i32_257 v253
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond8 (k0_t1 : Fin k0_t1_loop.trips) (v252 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v253 : BitVec 32 := Scalar.subi v252 v189
  let c0_i32_209 : BitVec 32 := 0#32
  let v254 : BitVec 1 := Scalar.cmpi .sge v253 c0_i32_209
  let c2048_i32_210 : BitVec 32 := 2048#32
  let v255 : BitVec 1 := Scalar.cmpi .slt v253 c2048_i32_210
  let v256 : BitVec 1 := Scalar.andi v254 v255
  let v257 : BitVec 32 := Scalar.extui v256
  let c0_i32_211 : BitVec 32 := 0#32
  let v258 : BitVec 1 := Scalar.cmpi .ne v257 c0_i32_211
  v258

def k0_chk7 (k0_t1 : Fin k0_t1_loop.trips) (v252 : BitVec 32) : Prop :=
  (∀ (k0_h8 : k0_cond8 k0_t1 v252 = 1#1), ∀ a, (k0_off20 k0_t1 v252) a + S1x8x128.size a ≤ S16x2048x128.size a)
theorem k0_off20_inb : ∀ (k0_t1 : Fin k0_t1_loop.trips) (v252 : BitVec 32) (k0_hw7 : k0_chk7 k0_t1 v252), ∀ (k0_h8 : k0_cond8 k0_t1 v252 = 1#1), ∀ a, (k0_off20 k0_t1 v252) a + S1x8x128.size a ≤ S16x2048x128.size a := fun k0_t1 v252 k0_hw7 k0_h8 => k0_hw7 k0_h8

def k0_off21 (k0_t1 : Fin k0_t1_loop.trips) (v259 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v260 : BitVec 32 := Scalar.subi v259 v189
  let v334 : BitVec 32 := Scalar.maxsi c0_i32_257 v260
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond9 (k0_t1 : Fin k0_t1_loop.trips) (v259 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v260 : BitVec 32 := Scalar.subi v259 v189
  let c0_i32_213 : BitVec 32 := 0#32
  let v261 : BitVec 1 := Scalar.cmpi .sge v260 c0_i32_213
  let c2048_i32_214 : BitVec 32 := 2048#32
  let v262 : BitVec 1 := Scalar.cmpi .slt v260 c2048_i32_214
  let v263 : BitVec 1 := Scalar.andi v261 v262
  let v264 : BitVec 32 := Scalar.extui v263
  let c0_i32_215 : BitVec 32 := 0#32
  let v265 : BitVec 1 := Scalar.cmpi .ne v264 c0_i32_215
  v265

def k0_chk8 (k0_t1 : Fin k0_t1_loop.trips) (v259 : BitVec 32) : Prop :=
  (∀ (k0_h9 : k0_cond9 k0_t1 v259 = 1#1), ∀ a, (k0_off21 k0_t1 v259) a + S1x8x128.size a ≤ S16x2048x128.size a)
theorem k0_off21_inb : ∀ (k0_t1 : Fin k0_t1_loop.trips) (v259 : BitVec 32) (k0_hw8 : k0_chk8 k0_t1 v259), ∀ (k0_h9 : k0_cond9 k0_t1 v259 = 1#1), ∀ a, (k0_off21 k0_t1 v259) a + S1x8x128.size a ≤ S16x2048x128.size a := fun k0_t1 v259 k0_hw8 k0_h9 => k0_hw8 k0_h9

def k0_off22 (k0_t1 : Fin k0_t1_loop.trips) (v266 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v267 : BitVec 32 := Scalar.subi v266 v189
  let v334 : BitVec 32 := Scalar.maxsi c0_i32_257 v267
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond10 (k0_t1 : Fin k0_t1_loop.trips) (v266 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v267 : BitVec 32 := Scalar.subi v266 v189
  let c0_i32_217 : BitVec 32 := 0#32
  let v268 : BitVec 1 := Scalar.cmpi .sge v267 c0_i32_217
  let c2048_i32_218 : BitVec 32 := 2048#32
  let v269 : BitVec 1 := Scalar.cmpi .slt v267 c2048_i32_218
  let v270 : BitVec 1 := Scalar.andi v268 v269
  let v271 : BitVec 32 := Scalar.extui v270
  let c0_i32_219 : BitVec 32 := 0#32
  let v272 : BitVec 1 := Scalar.cmpi .ne v271 c0_i32_219
  v272

def k0_chk9 (k0_t1 : Fin k0_t1_loop.trips) (v266 : BitVec 32) : Prop :=
  (∀ (k0_h10 : k0_cond10 k0_t1 v266 = 1#1), ∀ a, (k0_off22 k0_t1 v266) a + S1x8x128.size a ≤ S16x2048x128.size a)
theorem k0_off22_inb : ∀ (k0_t1 : Fin k0_t1_loop.trips) (v266 : BitVec 32) (k0_hw9 : k0_chk9 k0_t1 v266), ∀ (k0_h10 : k0_cond10 k0_t1 v266 = 1#1), ∀ a, (k0_off22 k0_t1 v266) a + S1x8x128.size a ≤ S16x2048x128.size a := fun k0_t1 v266 k0_hw9 k0_h10 => k0_hw9 k0_h10

def k0_off23 (k0_t1 : Fin k0_t1_loop.trips) (v273 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v274 : BitVec 32 := Scalar.subi v273 v189
  let v334 : BitVec 32 := Scalar.maxsi c0_i32_257 v274
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond11 (k0_t1 : Fin k0_t1_loop.trips) (v273 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v274 : BitVec 32 := Scalar.subi v273 v189
  let c0_i32_221 : BitVec 32 := 0#32
  let v275 : BitVec 1 := Scalar.cmpi .sge v274 c0_i32_221
  let c2048_i32_222 : BitVec 32 := 2048#32
  let v276 : BitVec 1 := Scalar.cmpi .slt v274 c2048_i32_222
  let v277 : BitVec 1 := Scalar.andi v275 v276
  let v278 : BitVec 32 := Scalar.extui v277
  let c0_i32_223 : BitVec 32 := 0#32
  let v279 : BitVec 1 := Scalar.cmpi .ne v278 c0_i32_223
  v279

def k0_chk10 (k0_t1 : Fin k0_t1_loop.trips) (v273 : BitVec 32) : Prop :=
  (∀ (k0_h11 : k0_cond11 k0_t1 v273 = 1#1), ∀ a, (k0_off23 k0_t1 v273) a + S1x8x128.size a ≤ S16x2048x128.size a)
theorem k0_off23_inb : ∀ (k0_t1 : Fin k0_t1_loop.trips) (v273 : BitVec 32) (k0_hw10 : k0_chk10 k0_t1 v273), ∀ (k0_h11 : k0_cond11 k0_t1 v273 = 1#1), ∀ a, (k0_off23 k0_t1 v273) a + S1x8x128.size a ≤ S16x2048x128.size a := fun k0_t1 v273 k0_hw10 k0_h11 => k0_hw10 k0_h11

def k0_off24 (k0_t1 : Fin k0_t1_loop.trips) (v280 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v281 : BitVec 32 := Scalar.subi v280 v189
  let v334 : BitVec 32 := Scalar.maxsi c0_i32_257 v281
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond12 (k0_t1 : Fin k0_t1_loop.trips) (v280 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v281 : BitVec 32 := Scalar.subi v280 v189
  let c0_i32_225 : BitVec 32 := 0#32
  let v282 : BitVec 1 := Scalar.cmpi .sge v281 c0_i32_225
  let c2048_i32_226 : BitVec 32 := 2048#32
  let v283 : BitVec 1 := Scalar.cmpi .slt v281 c2048_i32_226
  let v284 : BitVec 1 := Scalar.andi v282 v283
  let v285 : BitVec 32 := Scalar.extui v284
  let c0_i32_227 : BitVec 32 := 0#32
  let v286 : BitVec 1 := Scalar.cmpi .ne v285 c0_i32_227
  v286

def k0_chk11 (k0_t1 : Fin k0_t1_loop.trips) (v280 : BitVec 32) : Prop :=
  (∀ (k0_h12 : k0_cond12 k0_t1 v280 = 1#1), ∀ a, (k0_off24 k0_t1 v280) a + S1x8x128.size a ≤ S16x2048x128.size a)
theorem k0_off24_inb : ∀ (k0_t1 : Fin k0_t1_loop.trips) (v280 : BitVec 32) (k0_hw11 : k0_chk11 k0_t1 v280), ∀ (k0_h12 : k0_cond12 k0_t1 v280 = 1#1), ∀ a, (k0_off24 k0_t1 v280) a + S1x8x128.size a ≤ S16x2048x128.size a := fun k0_t1 v280 k0_hw11 k0_h12 => k0_hw11 k0_h12

def k0_off25 (k0_t1 : Fin k0_t1_loop.trips) (v287 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v288 : BitVec 32 := Scalar.subi v287 v189
  let v334 : BitVec 32 := Scalar.maxsi c0_i32_257 v288
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond13 (k0_t1 : Fin k0_t1_loop.trips) (v287 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v288 : BitVec 32 := Scalar.subi v287 v189
  let c0_i32_229 : BitVec 32 := 0#32
  let v289 : BitVec 1 := Scalar.cmpi .sge v288 c0_i32_229
  let c2048_i32_230 : BitVec 32 := 2048#32
  let v290 : BitVec 1 := Scalar.cmpi .slt v288 c2048_i32_230
  let v291 : BitVec 1 := Scalar.andi v289 v290
  let v292 : BitVec 32 := Scalar.extui v291
  let c0_i32_231 : BitVec 32 := 0#32
  let v293 : BitVec 1 := Scalar.cmpi .ne v292 c0_i32_231
  v293

def k0_chk12 (k0_t1 : Fin k0_t1_loop.trips) (v287 : BitVec 32) : Prop :=
  (∀ (k0_h13 : k0_cond13 k0_t1 v287 = 1#1), ∀ a, (k0_off25 k0_t1 v287) a + S1x8x128.size a ≤ S16x2048x128.size a)
theorem k0_off25_inb : ∀ (k0_t1 : Fin k0_t1_loop.trips) (v287 : BitVec 32) (k0_hw12 : k0_chk12 k0_t1 v287), ∀ (k0_h13 : k0_cond13 k0_t1 v287 = 1#1), ∀ a, (k0_off25 k0_t1 v287) a + S1x8x128.size a ≤ S16x2048x128.size a := fun k0_t1 v287 k0_hw12 k0_h13 => k0_hw12 k0_h13

def k0_off26 (k0_t1 : Fin k0_t1_loop.trips) (v294 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v295 : BitVec 32 := Scalar.subi v294 v189
  let v334 : BitVec 32 := Scalar.maxsi c0_i32_257 v295
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond14 (k0_t1 : Fin k0_t1_loop.trips) (v294 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v295 : BitVec 32 := Scalar.subi v294 v189
  let c0_i32_233 : BitVec 32 := 0#32
  let v296 : BitVec 1 := Scalar.cmpi .sge v295 c0_i32_233
  let c2048_i32_234 : BitVec 32 := 2048#32
  let v297 : BitVec 1 := Scalar.cmpi .slt v295 c2048_i32_234
  let v298 : BitVec 1 := Scalar.andi v296 v297
  let v299 : BitVec 32 := Scalar.extui v298
  let c0_i32_235 : BitVec 32 := 0#32
  let v300 : BitVec 1 := Scalar.cmpi .ne v299 c0_i32_235
  v300

def k0_chk13 (k0_t1 : Fin k0_t1_loop.trips) (v294 : BitVec 32) : Prop :=
  (∀ (k0_h14 : k0_cond14 k0_t1 v294 = 1#1), ∀ a, (k0_off26 k0_t1 v294) a + S1x8x128.size a ≤ S16x2048x128.size a)
theorem k0_off26_inb : ∀ (k0_t1 : Fin k0_t1_loop.trips) (v294 : BitVec 32) (k0_hw13 : k0_chk13 k0_t1 v294), ∀ (k0_h14 : k0_cond14 k0_t1 v294 = 1#1), ∀ a, (k0_off26 k0_t1 v294) a + S1x8x128.size a ≤ S16x2048x128.size a := fun k0_t1 v294 k0_hw13 k0_h14 => k0_hw13 k0_h14

def k0_off27 (k0_t1 : Fin k0_t1_loop.trips) (v301 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v302 : BitVec 32 := Scalar.subi v301 v189
  let v334 : BitVec 32 := Scalar.maxsi c0_i32_257 v302
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond15 (k0_t1 : Fin k0_t1_loop.trips) (v301 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v302 : BitVec 32 := Scalar.subi v301 v189
  let c0_i32_237 : BitVec 32 := 0#32
  let v303 : BitVec 1 := Scalar.cmpi .sge v302 c0_i32_237
  let c2048_i32_238 : BitVec 32 := 2048#32
  let v304 : BitVec 1 := Scalar.cmpi .slt v302 c2048_i32_238
  let v305 : BitVec 1 := Scalar.andi v303 v304
  let v306 : BitVec 32 := Scalar.extui v305
  let c0_i32_239 : BitVec 32 := 0#32
  let v307 : BitVec 1 := Scalar.cmpi .ne v306 c0_i32_239
  v307

def k0_chk14 (k0_t1 : Fin k0_t1_loop.trips) (v301 : BitVec 32) : Prop :=
  (∀ (k0_h15 : k0_cond15 k0_t1 v301 = 1#1), ∀ a, (k0_off27 k0_t1 v301) a + S1x8x128.size a ≤ S16x2048x128.size a)
theorem k0_off27_inb : ∀ (k0_t1 : Fin k0_t1_loop.trips) (v301 : BitVec 32) (k0_hw14 : k0_chk14 k0_t1 v301), ∀ (k0_h15 : k0_cond15 k0_t1 v301 = 1#1), ∀ a, (k0_off27 k0_t1 v301) a + S1x8x128.size a ≤ S16x2048x128.size a := fun k0_t1 v301 k0_hw14 k0_h15 => k0_hw14 k0_h15

def k0_off28 (k0_t1 : Fin k0_t1_loop.trips) (v308 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v309 : BitVec 32 := Scalar.subi v308 v189
  let v334 : BitVec 32 := Scalar.maxsi c0_i32_257 v309
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond16 (k0_t1 : Fin k0_t1_loop.trips) (v308 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v309 : BitVec 32 := Scalar.subi v308 v189
  let c0_i32_241 : BitVec 32 := 0#32
  let v310 : BitVec 1 := Scalar.cmpi .sge v309 c0_i32_241
  let c2048_i32_242 : BitVec 32 := 2048#32
  let v311 : BitVec 1 := Scalar.cmpi .slt v309 c2048_i32_242
  let v312 : BitVec 1 := Scalar.andi v310 v311
  let v313 : BitVec 32 := Scalar.extui v312
  let c0_i32_243 : BitVec 32 := 0#32
  let v314 : BitVec 1 := Scalar.cmpi .ne v313 c0_i32_243
  v314

def k0_chk15 (k0_t1 : Fin k0_t1_loop.trips) (v308 : BitVec 32) : Prop :=
  (∀ (k0_h16 : k0_cond16 k0_t1 v308 = 1#1), ∀ a, (k0_off28 k0_t1 v308) a + S1x8x128.size a ≤ S16x2048x128.size a)
theorem k0_off28_inb : ∀ (k0_t1 : Fin k0_t1_loop.trips) (v308 : BitVec 32) (k0_hw15 : k0_chk15 k0_t1 v308), ∀ (k0_h16 : k0_cond16 k0_t1 v308 = 1#1), ∀ a, (k0_off28 k0_t1 v308) a + S1x8x128.size a ≤ S16x2048x128.size a := fun k0_t1 v308 k0_hw15 k0_h16 => k0_hw15 k0_h16

def k0_off29 (k0_t1 : Fin k0_t1_loop.trips) (v315 : BitVec 32) : Fin 3 → Nat :=
  let c0_i32_107 : BitVec 32 := 0#32
  let c1_i32_108 : BitVec 32 := 1#32
  let arg12 : BitVec 32 := Scf.iv c0_i32_107 c1_i32_108 k0_t1
  let c16_i32_158 : BitVec 32 := 16#32
  let v169 : BitVec 32 := Scalar.remsi arg12 c16_i32_158
  let v369 : Index := Scalar.indexCast v169
  let c2047_i32 : BitVec 32 := 2047#32
  let c0_i32_257 : BitVec 32 := 0#32
  let c2048_i32_173 : BitVec 32 := 2048#32
  let v189 : BitVec 32 := Scalar.muli arg12 c2048_i32_173
  let v316 : BitVec 32 := Scalar.subi v315 v189
  let v334 : BitVec 32 := Scalar.maxsi c0_i32_257 v316
  let v335 : BitVec 32 := Scalar.minsi c2047_i32 v334
  let c0_i32_259 : BitVec 32 := 0#32
  let v337 : BitVec 1 := Scalar.cmpi .sgt v335 c0_i32_259
  let v338 : BitVec 32 := Scalar.extui v337
  let c0_i32_260 : BitVec 32 := 0#32
  let v339 : BitVec 1 := Scalar.cmpi .slt v335 c0_i32_260
  let v340 : BitVec 32 := Scalar.extui v339
  let v341 : BitVec 32 := Scalar.subi v338 v340
  let c8_i32_258 : BitVec 32 := 8#32
  let c0_i32_261 : BitVec 32 := 0#32
  let v342 : BitVec 1 := Scalar.cmpi .sgt c8_i32_258 c0_i32_261
  let v343 : BitVec 32 := Scalar.extui v342
  let c0_i32_262 : BitVec 32 := 0#32
  let v344 : BitVec 1 := Scalar.cmpi .slt c8_i32_258 c0_i32_262
  let v345 : BitVec 32 := Scalar.extui v344
  let v346 : BitVec 32 := Scalar.subi v343 v345
  let v347 : BitVec 1 := Scalar.cmpi .ne v341 v346
  let v348 : BitVec 32 := Scalar.remsi v335 c8_i32_258
  let c0_i32_263 : BitVec 32 := 0#32
  let v349 : BitVec 1 := Scalar.cmpi .ne v348 c0_i32_263
  let v350 : BitVec 1 := Scalar.andi v347 v349
  let v336 : BitVec 32 := Scalar.divsi v335 c8_i32_258
  let c1_i32_264 : BitVec 32 := 1#32
  let v351 : BitVec 32 := Scalar.subi v336 c1_i32_264
  let v352 : BitVec 32 := Scalar.select v350 v351 v336
  let c8_i32_265 : BitVec 32 := 8#32
  let v353 : BitVec 32 := Scalar.muli v352 c8_i32_265
  let v370 : Index := Scalar.indexCast v353
  let c0_272 : Index := 0#32
  ![v369.toNat, v370.toNat, 0]
def k0_cond17 (k0_t1 : Fin k0_t1_loop.trips) (v315 : BitVec 32) : BitVec 1 :=
  let c0_i32_107 : BitVec 32 := 0#32
  let c1_i32_108 : BitVec 32 := 1#32
  let arg12 : BitVec 32 := Scf.iv c0_i32_107 c1_i32_108 k0_t1
  let c2048_i32_173 : BitVec 32 := 2048#32
  let v189 : BitVec 32 := Scalar.muli arg12 c2048_i32_173
  let v316 : BitVec 32 := Scalar.subi v315 v189
  let c0_i32_245 : BitVec 32 := 0#32
  let v317 : BitVec 1 := Scalar.cmpi .sge v316 c0_i32_245
  let c2048_i32_246 : BitVec 32 := 2048#32
  let v318 : BitVec 1 := Scalar.cmpi .slt v316 c2048_i32_246
  let v319 : BitVec 1 := Scalar.andi v317 v318
  let v320 : BitVec 32 := Scalar.extui v319
  let c0_i32_247 : BitVec 32 := 0#32
  let v321 : BitVec 1 := Scalar.cmpi .ne v320 c0_i32_247
  v321

def k0_chk16 (k0_t1 : Fin k0_t1_loop.trips) (v315 : BitVec 32) : Prop :=
  (∀ (k0_h17 : k0_cond17 k0_t1 v315 = 1#1), ∀ a, (k0_off29 k0_t1 v315) a + S1x8x128.size a ≤ S16x2048x128.size a)
theorem k0_off29_inb : ∀ (k0_t1 : Fin k0_t1_loop.trips) (v315 : BitVec 32) (k0_hw16 : k0_chk16 k0_t1 v315), ∀ (k0_h17 : k0_cond17 k0_t1 v315 = 1#1), ∀ a, (k0_off29 k0_t1 v315) a + S1x8x128.size a ≤ S16x2048x128.size a := fun k0_t1 v315 k0_hw16 k0_h17 => k0_hw16 k0_h17

def k0_off30 (k0_t1 : Fin k0_t1_loop.trips) : Fin 1 → Nat :=
  let c0_i32_107 : BitVec 32 := 0#32
  let c1_i32_108 : BitVec 32 := 1#32
  let arg12 : BitVec 32 := Scf.iv c0_i32_107 c1_i32_108 k0_t1
  let c8_i32_250 : BitVec 32 := 8#32
  let v324 : BitVec 32 := Scalar.remsi arg12 c8_i32_250
  ![v324.toNat]
def k0_off31 (k0_t1 : Fin k0_t1_loop.trips) : Fin 2 → Nat :=
  let c0_i32_107 : BitVec 32 := 0#32
  let c1_i32_108 : BitVec 32 := 1#32
  let arg12 : BitVec 32 := Scf.iv c0_i32_107 c1_i32_108 k0_t1
  let c2048_i32_249 : BitVec 32 := 2048#32
  let v323 : BitVec 32 := Scalar.muli arg12 c2048_i32_249
  let c0_i32_251 : BitVec 32 := 0#32
  ![v323.toNat, 0]
def k0_off32 (k0_t1 : Fin k0_t1_loop.trips) : Fin 3 → Nat :=
  let c0_i32_107 : BitVec 32 := 0#32
  let c1_i32_108 : BitVec 32 := 1#32
  let arg12 : BitVec 32 := Scf.iv c0_i32_107 c1_i32_108 k0_t1
  let c16_i32_248 : BitVec 32 := 16#32
  let v322 : BitVec 32 := Scalar.remsi arg12 c16_i32_248
  let c0_i32_252 : BitVec 32 := 0#32
  let c0_i32_253 : BitVec 32 := 0#32
  ![v322.toNat, 0, 0]
def k0_cond18 (k0_t1 : Fin k0_t1_loop.trips) : BitVec 1 :=
  let c0_i32_107 : BitVec 32 := 0#32
  let c1_i32_108 : BitVec 32 := 1#32
  let arg12 : BitVec 32 := Scf.iv c0_i32_107 c1_i32_108 k0_t1
  let c8_i32_254 : BitVec 32 := 8#32
  let v330 : BitVec 32 := Scalar.addi arg12 c8_i32_254
  let c128_i32_255 : BitVec 32 := 128#32
  let v331 : BitVec 1 := Scalar.cmpi .slt v330 c128_i32_255
  let v332 : BitVec 32 := Scalar.extui v331
  let c0_i32_256 : BitVec 32 := 0#32
  let v333 : BitVec 1 := Scalar.cmpi .ne v332 c0_i32_256
  v333

def k0_off33 (k0_t1 : Fin k0_t1_loop.trips) : Fin 1 → Nat :=
  let c0_i32_107 : BitVec 32 := 0#32
  let c1_i32_108 : BitVec 32 := 1#32
  let arg12 : BitVec 32 := Scf.iv c0_i32_107 c1_i32_108 k0_t1
  let c8_i32_257 : BitVec 32 := 8#32
  let v334 : BitVec 32 := Scalar.addi arg12 c8_i32_257
  let c8_i32_260 : BitVec 32 := 8#32
  let v337 : BitVec 32 := Scalar.remsi v334 c8_i32_260
  ![v337.toNat]
def k0_off34 (k0_t1 : Fin k0_t1_loop.trips) : Fin 3 → Nat :=
  let c0_i32_107 : BitVec 32 := 0#32
  let c1_i32_108 : BitVec 32 := 1#32
  let arg12 : BitVec 32 := Scf.iv c0_i32_107 c1_i32_108 k0_t1
  let c8_i32_257 : BitVec 32 := 8#32
  let v334 : BitVec 32 := Scalar.addi arg12 c8_i32_257
  let c16_i32_258 : BitVec 32 := 16#32
  let v335 : BitVec 32 := Scalar.remsi v334 c16_i32_258
  let c0_i32_261 : BitVec 32 := 0#32
  let c0_i32_262 : BitVec 32 := 0#32
  ![v335.toNat, 0, 0]
def k0_off35 (k0_t1 : Fin k0_t1_loop.trips) : Fin 2 → Nat :=
  let c0_i32_107 : BitVec 32 := 0#32
  let c1_i32_108 : BitVec 32 := 1#32
  let arg12 : BitVec 32 := Scf.iv c0_i32_107 c1_i32_108 k0_t1
  let c8_i32_257 : BitVec 32 := 8#32
  let v334 : BitVec 32 := Scalar.addi arg12 c8_i32_257
  let c2048_i32_259 : BitVec 32 := 2048#32
  let v336 : BitVec 32 := Scalar.muli v334 c2048_i32_259
  let c0_i32_263 : BitVec 32 := 0#32
  ![v336.toNat, 0]
def k0_off36 (k0_t1 : Fin k0_t1_loop.trips) : Fin 3 → Nat :=
  let c0_i32_107 : BitVec 32 := 0#32
  let c1_i32_108 : BitVec 32 := 1#32
  let arg12 : BitVec 32 := Scf.iv c0_i32_107 c1_i32_108 k0_t1
  let c8_i32_264 : BitVec 32 := 8#32
  let v343 : BitVec 32 := Scalar.addi arg12 c8_i32_264
  let c16_i32_265 : BitVec 32 := 16#32
  let v344 : BitVec 32 := Scalar.remsi v343 c16_i32_265
  let c0_i32_268 : BitVec 32 := 0#32
  let c0_i32_269 : BitVec 32 := 0#32
  ![v344.toNat, 0, 0]
def k0_off37 (k0_t1 : Fin k0_t1_loop.trips) : Fin 2 → Nat :=
  let c0_i32_107 : BitVec 32 := 0#32
  let c1_i32_108 : BitVec 32 := 1#32
  let arg12 : BitVec 32 := Scf.iv c0_i32_107 c1_i32_108 k0_t1
  let c8_i32_264 : BitVec 32 := 8#32
  let v343 : BitVec 32 := Scalar.addi arg12 c8_i32_264
  let c1024_i32_266 : BitVec 32 := 1024#32
  let v345 : BitVec 32 := Scalar.muli v343 c1024_i32_266
  let c0_i32_270 : BitVec 32 := 0#32
  ![v345.toNat, 0]
abbrev stage0_0 : Fin 1 → Memref sig .tc .smem S1x16 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .smem S1x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S131072x1 : Shape := ⟨2, ![131072, 1]⟩
abbrev S17 : Shape := ⟨1, ![17]⟩
abbrev S262144x128 : Shape := ⟨2, ![262144, 128]⟩
abbrev S128x1 : Shape := ⟨2, ![128, 1]⟩
abbrev S128 : Shape := ⟨1, ![128]⟩
abbrev S1x128 : Shape := ⟨2, ![1, 128]⟩
abbrev S131072x128 : Shape := ⟨2, ![131072, 128]⟩
abbrev S_ : Shape := ⟨0, ![]⟩
abbrev S16 : Shape := ⟨1, ![16]⟩
abbrev S16x1 : Shape := ⟨2, ![16, 1]⟩
abbrev S16x128 : Shape := ⟨2, ![16, 128]⟩
abbrev S131072x2x128 : Shape := ⟨3, ![131072, 2, 128]⟩
abbrev S1 : Shape := ⟨1, ![1]⟩

abbrev nBuf : Space → Nat
  | .hbm => 30
  | .vmem => 0
  | .smem => 0
  | _ => 0

abbrev bufTy : (tb : Table) → Fin (tcTables nBuf tb) → BufTy
  | .hbm, ⟨0, _⟩ => ⟨S131072x1, .f32⟩
  | .hbm, ⟨1, _⟩ => ⟨S17, .i32⟩
  | .hbm, ⟨2, _⟩ => ⟨S262144x128, .f32⟩
  | .hbm, ⟨3, _⟩ => ⟨S128x1, .f32⟩
  | .hbm, ⟨4, _⟩ => ⟨S128, .f32⟩
  | .hbm, ⟨5, _⟩ => ⟨S1x128, .f32⟩
  | .hbm, ⟨6, _⟩ => ⟨S131072x128, .f32⟩
  | .hbm, ⟨7, _⟩ => ⟨S1x128, .f32⟩
  | .hbm, ⟨8, _⟩ => ⟨S131072x128, .f32⟩
  | .hbm, ⟨9, _⟩ => ⟨S131072x128, .f32⟩
  | .hbm, ⟨10, _⟩ => ⟨S_, .i32⟩
  | .hbm, ⟨11, _⟩ => ⟨S17, .i32⟩
  | .hbm, ⟨12, _⟩ => ⟨S17, .i32⟩
  | .hbm, ⟨13, _⟩ => ⟨S16, .i32⟩
  | .hbm, ⟨14, _⟩ => ⟨S_, .i32⟩
  | .hbm, ⟨15, _⟩ => ⟨S16, .i32⟩
  | .hbm, ⟨16, _⟩ => ⟨S16, .i1⟩
  | .hbm, ⟨17, _⟩ => ⟨S_, .i32⟩
  | .hbm, ⟨18, _⟩ => ⟨S16, .i32⟩
  | .hbm, ⟨19, _⟩ => ⟨S16, .i32⟩
  | .hbm, ⟨20, _⟩ => ⟨S16, .i32⟩
  | .hbm, ⟨21, _⟩ => ⟨S16x1, .i32⟩
  | .hbm, ⟨22, _⟩ => ⟨S_, .f32⟩
  | .hbm, ⟨23, _⟩ => ⟨S16x128, .f32⟩
  | .hbm, ⟨24, _⟩ => ⟨S131072x128, .f32⟩
  | .hbm, ⟨25, _⟩ => ⟨S131072x2x128, .f32⟩
  | .hbm, ⟨26, _⟩ => ⟨S_, .i32⟩
  | .hbm, ⟨27, _⟩ => ⟨S1, .i32⟩
  | .hbm, ⟨28, _⟩ => ⟨S131072x2x128, .f32⟩
  | .hbm, ⟨29, _⟩ => ⟨S262144x128, .f32⟩
  | _, _ => ⟨S131072x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_c : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_c_0 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_2 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩

abbrev nD : Nat := 1
abbrev τ : Topo := Topo.v7x

variable {F : FTy → Type} [FloatOps F]
-- ==== Proof.Offsets.lean ====
/-
  The offsets and the conditions of one trip of the ring, in closed form: trip `k` works in slot `k % 16` of the two
  buffers, on semaphore `k % 8`, on rows `2048 k …` of the graph and `1024 k …` of the column `y`; and the word that
  names a row selects the eight-row window that holds it.
-/
module

public import proofs.«01_k».proof.Defs
public import proofs.«01_k».proof.Proof.Gen.KernelIdeal.Launch
public import proofs.«01_k».proof.Proof.Gen.KernelIdeal.Skeleton

@[expose] public section

namespace Cert.Proof.Ring

open Cert.KernelIdeal Cert.KernelIdeal.Gen
open Idealize.ShloMosaic Idealize.ShloMosaic.TcCoe

/-- The loop makes 128 trips. -/
theorem trips_eq : k0_t1_loop.trips = 128 := by decide +kernel

theorem trip_lt (k : Fin k0_t1_loop.trips) : k.val < 128 := trips_eq ▸ k.isLt

/-! ## Offsets that depend on the trip alone -/

theorem off1_eq : ∀ b : Fin 16, k0_off1 (BitVec.ofNat 32 b.val) = ![b.val % 8] := by decide +kernel
theorem off2_eq : ∀ b : Fin 16, k0_off2 (BitVec.ofNat 32 b.val) = ![b.val % 16, 0, 0] := by decide +kernel
theorem off3_eq : ∀ b : Fin 16, k0_off3 (BitVec.ofNat 32 b.val) = ![b.val % 16, 0, 0] := by decide +kernel
theorem off4_eq : ∀ k, k0_off4 k = ![k.val % 8] := by decide +kernel
theorem off5_eq : ∀ k, k0_off5 k = ![k.val % 16, 0, 0] := by decide +kernel
theorem off6_eq : ∀ k, k0_off6 k = ![2048 * k.val, 0] := by decide +kernel
theorem off7_eq : ∀ k, k0_off7 k = ![k.val % 16, 0, 0] := by decide +kernel
theorem off8_eq : ∀ k, k0_off8 k = ![1024 * k.val, 0] := by decide +kernel
theorem cond1_iff : ∀ k, k0_cond1 k = 1#1 ↔ 8 ≤ k.val := by decide +kernel
theorem off9_eq : ∀ k, 8 ≤ k.val → k0_off9 k = ![(k.val - 8) % 8] := by decide +kernel
theorem off10_eq : ∀ k, 8 ≤ k.val → k0_off10 k = ![2048 * (k.val - 8), 0] := by decide +kernel
theorem off11_eq : ∀ k, 8 ≤ k.val → k0_off11 k = ![(k.val - 8) % 16, 0, 0] := by decide +kernel
theorem off12_eq : ∀ k, k0_off12 k = ![k.val % 16, 0, 0] := by decide +kernel
theorem off13_eq : ∀ k, k0_off13 k = ![k.val % 16, 1, 0] := by decide +kernel
theorem off30_eq : ∀ k, k0_off30 k = ![k.val % 8] := by decide +kernel
theorem off31_eq : ∀ k, k0_off31 k = ![2048 * k.val, 0] := by decide +kernel
theorem off32_eq : ∀ k, k0_off32 k = ![k.val % 16, 0, 0] := by decide +kernel
theorem cond18_iff : ∀ k, k0_cond18 k = 1#1 ↔ k.val + 8 < 128 := by decide +kernel
theorem off33_eq : ∀ k, k0_off33 k = ![(k.val + 8) % 8] := by decide +kernel
theorem off34_eq : ∀ k, k0_off34 k = ![(k.val + 8) % 16, 0, 0] := by decide +kernel
theorem off35_eq : ∀ k, k0_off35 k = ![2048 * (k.val + 8), 0] := by decide +kernel
theorem off36_eq : ∀ k, k0_off36 k = ![(k.val + 8) % 16, 0, 0] := by decide +kernel
theorem off37_eq : ∀ k, k0_off37 k = ![1024 * (k.val + 8), 0] := by decide +kernel

/-- The induction variable of trip `k` is the word `k`. -/
theorem iv_toNat : ∀ k : Fin k0_t1_loop.trips, (Scf.iv 0#32 1#32 k).toNat = k.val := by decide +kernel

/-- The first row of trip `k`'s chunk, as the word the kernel computes. -/
theorem base_toNat : ∀ k : Fin k0_t1_loop.trips,
    (Scalar.muli (Scf.iv 0#32 1#32 k) 2048#32).toNat = 2048 * k.val := by decide +kernel

/-! ## Where a row word lands -/

/-- The clamp of a row number into the chunk. -/
def clip (r : BitVec 32) : BitVec 32 := Scalar.minsi 2047#32 (Scalar.maxsi 0#32 r)

theorem clip_lt (r : BitVec 32) : (clip r).toNat < 2048 := by
  simp only [clip, Scalar.minsi, Scalar.maxsi, IntOp.minsi, IntOp.maxsi]
  split <;> split <;> simp_all [BitVec.slt, BitVec.sle, BitVec.toInt] <;> omega

theorem clip_of_lt {r : BitVec 32} (h : r.toNat < 2048) : clip r = r := by
  simp only [clip, Scalar.minsi, Scalar.maxsi, IntOp.minsi, IntOp.maxsi]
  split <;> split <;> simp_all [BitVec.slt, BitVec.sle, BitVec.toInt] <;> (try apply BitVec.eq_of_toNat_eq) <;> (try simp) <;> omega

/-- The first row of the eight-row window that holds row `x`, as the kernel computes it. -/
def winOf (x : BitVec 32) : BitVec 32 :=
  Scalar.muli (Scalar.select
    (Scalar.andi
      (Scalar.cmpi .ne (Scalar.subi (Scalar.extui (Scalar.cmpi .sgt x 0#32)) (Scalar.extui (Scalar.cmpi .slt x 0#32)))
        (Scalar.subi (Scalar.extui (Scalar.cmpi .sgt 8#32 0#32)) (Scalar.extui (Scalar.cmpi .slt 8#32 0#32))))
      (Scalar.cmpi .ne (Scalar.remsi x 8#32) 0#32))
    (Scalar.subi (Scalar.divsi x 8#32) 1#32) (Scalar.divsi x 8#32)) 8#32

theorem winOf_fin : ∀ r : Fin 2048, (winOf (BitVec.ofNat 32 r.val)).toNat = r.val / 8 * 8 := by decide +kernel

theorem winOf_toNat {x : BitVec 32} (h : x.toNat < 2048) : (winOf x).toNat = x.toNat / 8 * 8 := by
  have := winOf_fin ⟨x.toNat, h⟩
  rwa [BitVec.ofNat_toNat, BitVec.setWidth_eq] at this

/-- A row number less the chunk's first row. -/
def relRow (k : Fin k0_t1_loop.trips) (v : BitVec 32) : BitVec 32 := Scalar.subi v (Scalar.muli (Scf.iv 0#32 1#32 k) 2048#32)

theorem slot_word : ∀ k : Fin k0_t1_loop.trips, (Scalar.indexCast (Scalar.remsi (Scf.iv 0#32 1#32 k) 16#32)).toNat = k.val % 16 := by
  decide +kernel

theorem off14_eq (k : Fin k0_t1_loop.trips) (v : BitVec 32) :
    k0_off14 k v = ![k.val % 16, (winOf (clip (relRow k v))).toNat, 0] := by
  rw [← slot_word k]; rfl

/-- The assumption made on reading a row number holds of every word: the clamp keeps the window inside the chunk. -/
theorem chk1 (k : Fin k0_t1_loop.trips) (v : BitVec 32) : k0_chk1 k v := by
  intro _ a
  rw [off14_eq]
  have h := clip_lt (relRow k v)
  have hw := winOf_toNat h
  fin_cases a
  · show k.val % 16 + 1 ≤ 16; omega
  · show (winOf (clip (relRow k v))).toNat + 8 ≤ 2048; omega
  · show 0 + 128 ≤ 128; omega

theorem inChunk_iff (r : BitVec 32) :
    Scalar.cmpi .ne (Scalar.extui (Scalar.andi (Scalar.cmpi .sge r 0#32) (Scalar.cmpi .slt r 2048#32)) : BitVec 32) 0#32 = 1#1 ↔ r.toNat < 2048 := by
  have hr := r.isLt
  simp only [Scalar.cmpi, Scalar.extui, Scalar.andi, IntOp.cmpi, IntOp.andi]
  have h1 : r.slt 2048#32 = decide (r.toInt < 2048) := by simp [BitVec.slt]
  have h2 : (0#32).sle r = decide (0 ≤ r.toInt) := by simp [BitVec.sle]
  rw [BitVec.toInt_eq_toNat_cond] at h1 h2
  by_cases ha : r.toNat < 2048
  · have e1 : r.slt 2048#32 = true := by rw [h1]; simp; omega
    have e2 : (0#32).sle r = true := by rw [h2]; simp; omega
    simp_all
  · by_cases hb : 2 * r.toNat < 2 ^ 32
    · have e1 : r.slt 2048#32 = false := by rw [h1]; simp; omega
      simp_all
    · have e2 : (0#32).sle r = false := by rw [h2]; simp; omega
      simp_all

theorem relRow_toNat (k : Fin k0_t1_loop.trips) (v : BitVec 32) :
    (relRow k v).toNat = (v.toNat + (2 ^ 32 - 2048 * k.val)) % 2 ^ 32 := by
  simp only [relRow, Scalar.subi, IntOp.subi, BitVec.toNat_sub]
  rw [base_toNat]; congr 1; omega

/-- The kernel touches up row `v` in the trip that holds it. -/
theorem cond2_iff (k : Fin k0_t1_loop.trips) (v : BitVec 32) : k0_cond2 k v = 1#1 ↔ v.toNat / 2048 = k.val := by
  have hk := trip_lt k
  have hv := v.isLt
  refine (inChunk_iff (relRow k v)).trans ?_
  rw [relRow_toNat]
  omega

theorem relRow_of_hit {k : Fin k0_t1_loop.trips} {v : BitVec 32} (h : v.toNat / 2048 = k.val) :
    (relRow k v).toNat = v.toNat - 2048 * k.val := by
  have hk := trip_lt k
  have hv := v.isLt
  rw [relRow_toNat]; omega

end Cert.Proof.Ring

end
-- ==== Proof.Names.lean ====
/-
  The ring's canonical names. Ticket `p` of the ring works in slot `p % 16` of the two VMEM buffers and on semaphore
  `p % 8`; chunk `p` is rows `2048 p … 2048 p + 2047` of the graph and of the result, and rows `1024 p … 1024 p + 1023` of
  the column `y`. Each name is the memref the kernel computes; what it covers and what a transfer through it leaves
  behind are stated by coordinates.
-/
module

public import proofs.«01_k».proof.Proof.Offsets
public import Idealize.ShloMosaic.Lib.ValueLayout
public import Idealize.ShloMosaic.Lib.ViewIndex

@[expose] public section

noncomputable section

namespace Cert.Proof.Ring

open Cert.KernelIdeal Cert.KernelIdeal.Gen
open Idealize.ShloMosaic Idealize.ShloMosaic.TcCoe
open Idealize.ShloMosaic.ValueIdx

variable {F : FTy → Type} [FloatOps F]

/-- Two rank-two indices with the same coordinates are the same. -/
theorem idx2_ext {d : Fin 2 → ℕ} {x y : (⟨2, d⟩ : Shape).Idx} (h0 : (x 0).val = (y 0).val) (h1 : (x 1).val = (y 1).val) : x = y := by
  funext a; fin_cases a
  · exact Fin.ext h0
  · exact Fin.ext h1

/-! ## The buffers -/

/-- The sixteen row numbers (scalar memory). -/
abbrev oM : Memref sig .tc .smem S1x16 .i32 := Memref.whole cc0_stg0_0
/-- The sixteen entries of `y` that go with them (scalar memory). -/
abbrev fM : Memref sig .tc .smem S1x16 .f32 := Memref.whole cc0_stg1_0
/-- The column `y`. -/
abbrev yM : Memref sig .tc .hbm S131072x1 .f32 := Memref.whole main_arg0
/-- The weight row. -/
abbrev wM : Memref sig .tc .vmem S1x128 .f32 := Memref.whole cc0_stg2_0
/-- The bias row. -/
abbrev bM : Memref sig .tc .vmem S1x128 .f32 := Memref.whole cc0_stg3_0
/-- The graph. -/
abbrev gM : Memref sig .tc .hbm S262144x128 .f32 := Memref.whole main_arg2
/-- The result. -/
abbrev rM : Memref sig .tc .hbm S262144x128 .f32 := Memref.whole main_v53
/-- The ring of graph chunks. -/
abbrev gbM : Memref sig .tc .vmem S16x2048x128 .f32 := Memref.whole cc0_scratch0
/-- The ring of `y` chunks. -/
abbrev ybM : Memref sig .tc .vmem S16x1024x1 .f32 := Memref.whole cc0_scratch1

/-! ## The names -/

theorem slot_inb (p : ℕ) : ∀ a, (![p % 16, 0, 0] : Fin 3 → ℕ) a + S1x2048x128.size a ≤ S16x2048x128.size a := by
  intro a; fin_cases a
  · show p % 16 + 1 ≤ 16; omega
  · show 0 + 2048 ≤ 2048; omega
  · show 0 + 128 ≤ 128; omega

theorem yslot_inb (p : ℕ) : ∀ a, (![p % 16, 0, 0] : Fin 3 → ℕ) a + S1x1024x1.size a ≤ S16x1024x1.size a := by
  intro a; fin_cases a
  · show p % 16 + 1 ≤ 16; omega
  · show 0 + 1024 ≤ 1024; omega
  · show 0 + 1 ≤ 1; omega

theorem chunk_inb (p : ℕ) : ∀ a, (![2048 * (p % 128), 0] : Fin 2 → ℕ) a + S2048x128.size a ≤ S262144x128.size a := by
  intro a; fin_cases a
  · show 2048 * (p % 128) + 2048 ≤ 262144; omega
  · show 0 + 128 ≤ 128; omega

theorem ychunk_inb (p : ℕ) : ∀ a, (![1024 * (p % 128), 0] : Fin 2 → ℕ) a + S1024x1.size a ≤ S131072x1.size a := by
  intro a; fin_cases a
  · show 1024 * (p % 128) + 1024 ≤ 131072; omega
  · show 0 + 1 ≤ 1; omega

theorem sem_inb (p : ℕ) : ∀ a, (![p % 8] : Fin 1 → ℕ) a + S1.size a ≤ S8.size a := by
  intro a; fin_cases a; show p % 8 + 1 ≤ 8; omega

/-- Slot `p % 16` of the graph ring. -/
def rslot (p : ℕ) : Memref sig .tc .vmem S2048x128 .f32 :=
  (gbM.slice (Rect.unit (s := S16x2048x128) ![p % 16, 0, 0] S1x2048x128.size (slot_inb p)) (fun _ => rfl)).squeeze S2048x128 squeezes_S1x2048x128_S2048x128
/-- Slot `p % 16` of the `y` ring. -/
def yslot (p : ℕ) : Memref sig .tc .vmem S1024x1 .f32 :=
  (ybM.slice (Rect.unit (s := S16x1024x1) ![p % 16, 0, 0] S1x1024x1.size (yslot_inb p)) (fun _ => rfl)).squeeze S1024x1 squeezes_S1x1024x1_S1024x1
/-- Chunk `p` of the graph. -/
def gch (p : ℕ) : Memref sig .tc .hbm S2048x128 .f32 :=
  gM.slice (Rect.unit (s := S262144x128) ![2048 * (p % 128), 0] S2048x128.size (chunk_inb p)) (fun _ => rfl)
/-- Chunk `p` of the result. -/
def rch (p : ℕ) : Memref sig .tc .hbm S2048x128 .f32 :=
  rM.slice (Rect.unit (s := S262144x128) ![2048 * (p % 128), 0] S2048x128.size (chunk_inb p)) (fun _ => rfl)
/-- Chunk `p` of the column. -/
def ych (p : ℕ) : Memref sig .tc .hbm S1024x1 .f32 :=
  yM.slice (Rect.unit (s := S131072x1) ![1024 * (p % 128), 0] S1024x1.size (ychunk_inb p)) (fun _ => rfl)
/-- The semaphore of ticket `p`'s graph chunk; -/
def gsem (p : ℕ) : DmaSem sig := ((cc0_scratch2.slice (Rect.unit (s := S8) ![p % 8] S1.size (sem_inb p))).squeeze S_ squeezes_S1_S_).sem
/-- of its `y` chunk; -/
def ysem (p : ℕ) : DmaSem sig := ((cc0_scratch3.slice (Rect.unit (s := S8) ![p % 8] S1.size (sem_inb p))).squeeze S_ squeezes_S1_S_).sem
/-- of its result chunk. -/
def osem (p : ℕ) : DmaSem sig := ((cc0_scratch4.slice (Rect.unit (s := S8) ![p % 8] S1.size (sem_inb p))).squeeze S_ squeezes_S1_S_).sem

/-! The names depend on the ticket's residue alone. -/

theorem rslot_mod {p p' : ℕ} (h : p % 16 = p' % 16) : rslot p = rslot p' := by
  unfold rslot; congr 1; exact Memref.slice_unit_congr _ (by rw [h]) _ _ _ _
theorem yslot_mod {p p' : ℕ} (h : p % 16 = p' % 16) : yslot p = yslot p' := by
  unfold yslot; congr 1; exact Memref.slice_unit_congr _ (by rw [h]) _ _ _ _
theorem gsem_mod {p p' : ℕ} (h : p % 8 = p' % 8) : gsem p = gsem p' := by
  unfold gsem; rw [SemArray.slice_unit_congr cc0_scratch2 (show (![p % 8] : Fin 1 → ℕ) = ![p' % 8] by rw [h])]
theorem ysem_mod {p p' : ℕ} (h : p % 8 = p' % 8) : ysem p = ysem p' := by
  unfold ysem; rw [SemArray.slice_unit_congr cc0_scratch3 (show (![p % 8] : Fin 1 → ℕ) = ![p' % 8] by rw [h])]
theorem osem_mod {p p' : ℕ} (h : p % 8 = p' % 8) : osem p = osem p' := by
  unfold osem; rw [SemArray.slice_unit_congr cc0_scratch4 (show (![p % 8] : Fin 1 → ℕ) = ![p' % 8] by rw [h])]

/-! ## What a name covers -/

/-- The elements of slot `p % 16` of the graph ring. -/
def slotSet (p : ℕ) : Finset S16x2048x128.Idx := Finset.univ.filter fun x => (x 0).val = p % 16
/-- The elements of slot `p % 16` of the `y` ring. -/
def yslotSet (p : ℕ) : Finset S16x1024x1.Idx := Finset.univ.filter fun x => (x 0).val = p % 16
/-- The elements of chunk `p` of the graph (and of the result). -/
def chunkSet (p : ℕ) : Finset S262144x128.Idx := Finset.univ.filter fun x => (x 0).val / 2048 = p % 128
/-- The elements of chunk `p` of the column. -/
def ychunkSet (p : ℕ) : Finset S131072x1.Idx := Finset.univ.filter fun x => (x 0).val / 1024 = p % 128

theorem slotSet_mod {p p' : ℕ} (h : p % 16 = p' % 16) : slotSet p = slotSet p' := by unfold slotSet; rw [h]
theorem yslotSet_mod {p p' : ℕ} (h : p % 16 = p' % 16) : yslotSet p = yslotSet p' := by unfold yslotSet; rw [h]

theorem mem_slotSet {p : ℕ} {x : S16x2048x128.Idx} : x ∈ slotSet p ↔ (x 0).val = p % 16 := by simp [slotSet]
theorem mem_yslotSet {p : ℕ} {x : S16x1024x1.Idx} : x ∈ yslotSet p ↔ (x 0).val = p % 16 := by simp [yslotSet]
theorem mem_chunkSet {p : ℕ} {x : S262144x128.Idx} : x ∈ chunkSet p ↔ (x 0).val / 2048 = p % 128 := by simp [chunkSet]
theorem mem_ychunkSet {p : ℕ} {x : S131072x1.Idx} : x ∈ ychunkSet p ↔ (x 0).val / 1024 = p % 128 := by simp [ychunkSet]

/-- Row `r` of chunk `p`, lane `q`. -/
def gix (p r : ℕ) (hr : r < 2048) (q : Fin 128) : S262144x128.Idx := ix2 ⟨2048 * (p % 128) + r, by omega⟩ q
/-- Row `r` of chunk `p` of the column. -/
def yix (p r : ℕ) (hr : r < 1024) (q : Fin 1) : S131072x1.Idx := ix2 ⟨1024 * (p % 128) + r, by omega⟩ q

theorem rslot_emb (p : ℕ) (r : Fin 2048) (q : Fin 128) :
    (rslot p).view.emb (ix2 r q) = (ix3 ⟨p % 16, by omega⟩ r q : S16x2048x128.Idx) := by
  show (Rect.unit (s := S16x2048x128) ![p % 16, 0, 0] S1x2048x128.size (slot_inb p)).emb (Shape.reshapeEquiv _ (ix2 r q)) = _
  rw [reshapeEquiv_ix2_1ab (a := 2048) (b := 128)]
  apply Shape.idx3_ext
  · show p % 16 + 1 * 0 = p % 16; omega
  · show 0 + 1 * r.val = r.val; omega
  · show 0 + 1 * q.val = q.val; omega

theorem yslot_emb (p : ℕ) (r : Fin 1024) (q : Fin 1) :
    (yslot p).view.emb (ix2 r q) = (ix3 ⟨p % 16, by omega⟩ r q : S16x1024x1.Idx) := by
  show (Rect.unit (s := S16x1024x1) ![p % 16, 0, 0] S1x1024x1.size (yslot_inb p)).emb (Shape.reshapeEquiv _ (ix2 r q)) = _
  rw [reshapeEquiv_ix2_1ab (a := 1024) (b := 1)]
  apply Shape.idx3_ext
  · show p % 16 + 1 * 0 = p % 16; omega
  · show 0 + 1 * r.val = r.val; omega
  · show 0 + 1 * q.val = q.val; omega

theorem gch_emb (p : ℕ) (r : Fin 2048) (q : Fin 128) : (gch p).view.emb (ix2 r q) = gix p r.val r.isLt q := by
  apply idx2_ext
  · show 2048 * (p % 128) + 1 * r.val = 2048 * (p % 128) + r.val; omega
  · show 0 + 1 * q.val = q.val; omega

theorem rch_emb (p : ℕ) (r : Fin 2048) (q : Fin 128) : (rch p).view.emb (ix2 r q) = gix p r.val r.isLt q := by
  apply idx2_ext
  · show 2048 * (p % 128) + 1 * r.val = 2048 * (p % 128) + r.val; omega
  · show 0 + 1 * q.val = q.val; omega

theorem ych_emb (p : ℕ) (r : Fin 1024) (q : Fin 1) : (ych p).view.emb (ix2 r q) = yix p r.val r.isLt q := by
  apply idx2_ext
  · show 1024 * (p % 128) + 1 * r.val = 1024 * (p % 128) + r.val; omega
  · show 0 + 1 * q.val = q.val; omega

/-- An element of slot `p` is the name's at its own row and lane. -/
theorem slot_exists {p : ℕ} {i : S16x2048x128.Idx} (h : i ∈ slotSet p) : i = (rslot p).view.emb (ix2 (i 1) (i 2)) := by
  have e : i = ix3 ⟨p % 16, by omega⟩ (i 1) (i 2) := Shape.idx3_ext (mem_slotSet.mp h) rfl rfl
  exact e.trans (rslot_emb p (i 1) (i 2)).symm

theorem yslot_exists {p : ℕ} {i : S16x1024x1.Idx} (h : i ∈ yslotSet p) : i = (yslot p).view.emb (ix2 (i 1) (i 2)) := by
  have e : i = ix3 ⟨p % 16, by omega⟩ (i 1) (i 2) := Shape.idx3_ext (mem_yslotSet.mp h) rfl rfl
  exact e.trans (yslot_emb p (i 1) (i 2)).symm

/-- The row of an element of chunk `p` within the chunk. -/
theorem chunk_row {p : ℕ} {i : S262144x128.Idx} (h : i ∈ chunkSet p) :
    i = gix p ((i 0).val % 2048) (Nat.mod_lt _ (by norm_num)) (i 1) := by
  have h' := mem_chunkSet.mp h
  refine idx2_ext ?_ rfl
  show (i 0).val = 2048 * (p % 128) + (i 0).val % 2048
  omega

theorem ychunk_row {p : ℕ} {i : S131072x1.Idx} (h : i ∈ ychunkSet p) :
    i = yix p ((i 0).val % 1024) (Nat.mod_lt _ (by norm_num)) (i 1) := by
  have h' := mem_ychunkSet.mp h
  refine idx2_ext ?_ rfl
  show (i 0).val = 1024 * (p % 128) + (i 0).val % 1024
  omega

theorem rslot_set (p : ℕ) : (rslot p).view.set = slotSet p := by
  ext i
  constructor
  · intro h
    obtain ⟨x, -, rfl⟩ := Finset.mem_map.mp h
    rw [eq_ix2 x]
    erw [rslot_emb]
    exact mem_slotSet.mpr rfl
  · intro h
    rw [slot_exists h]; exact View.emb_mem_set _ _

theorem yslot_set (p : ℕ) : (yslot p).view.set = yslotSet p := by
  ext i
  constructor
  · intro h
    obtain ⟨x, -, rfl⟩ := Finset.mem_map.mp h
    rw [eq_ix2 x]
    erw [yslot_emb]
    exact mem_yslotSet.mpr rfl
  · intro h
    rw [yslot_exists h]; exact View.emb_mem_set _ _

theorem gix_mem (p r : ℕ) (hr : r < 2048) (q : Fin 128) : gix p r hr q ∈ chunkSet p :=
  mem_chunkSet.mpr (by
     have : ((gix p r hr q) 0).val = 2048 * (p % 128) + r := rfl
     rw [this]; omega)
theorem yix_mem (p r : ℕ) (hr : r < 1024) (q : Fin 1) : yix p r hr q ∈ ychunkSet p :=
  mem_ychunkSet.mpr (by
     have : ((yix p r hr q) 0).val = 1024 * (p % 128) + r := rfl
     rw [this]; omega)

theorem gch_set (p : ℕ) : (gch p).view.set = chunkSet p := by
  ext i
  constructor
  · intro h
    obtain ⟨x, -, rfl⟩ := Finset.mem_map.mp h
    rw [eq_ix2 x]
    erw [gch_emb]
    exact gix_mem _ _ _ _
  · intro h
    exact ((chunk_row h).trans (gch_emb p ⟨_, Nat.mod_lt _ (by norm_num)⟩ _).symm) ▸ View.emb_mem_set _ _

theorem rch_set (p : ℕ) : (rch p).view.set = chunkSet p := by
  ext i
  constructor
  · intro h
    obtain ⟨x, -, rfl⟩ := Finset.mem_map.mp h
    rw [eq_ix2 x]
    erw [rch_emb]
    exact gix_mem _ _ _ _
  · intro h
    exact ((chunk_row h).trans (rch_emb p ⟨_, Nat.mod_lt _ (by norm_num)⟩ _).symm) ▸ View.emb_mem_set _ _

theorem ych_set (p : ℕ) : (ych p).view.set = ychunkSet p := by
  ext i
  constructor
  · intro h
    obtain ⟨x, -, rfl⟩ := Finset.mem_map.mp h
    rw [eq_ix2 x]
    erw [ych_emb]
    exact yix_mem _ _ _ _
  · intro h
    exact ((ychunk_row h).trans (ych_emb p ⟨_, Nat.mod_lt _ (by norm_num)⟩ _).symm) ▸ View.emb_mem_set _ _

/-! ## What a transfer leaves behind -/

/-- The ring's contents where every slot holds chunk `p` of the array `A`. -/
def fillG (p : ℕ) (A : S262144x128.Idx → Elt F .f32) : S16x2048x128.Idx → Elt F .f32 :=
  fun x => A (gix p (x 1).val (x 1).isLt (x 2))
/-- The ring's contents where every slot holds chunk `p` of the column `y`. -/
def fillY (p : ℕ) (y : S131072x1.Idx → Elt F .f32) : S16x1024x1.Idx → Elt F .f32 :=
  fun x => y (yix p (x 1).val (x 1).isLt (x 2))

/-- A graph chunk copied into its slot. -/
theorem gcopy (p : ℕ) (f : S16x2048x128.Idx → Elt F .f32) (G : S262144x128.Idx → Elt F .f32) :
    ∀ i ∈ slotSet p, (rslot p).view.write (Elt F) f ((gch p).view.read (Elt F) G) Finset.univ i = fillG p G i := by
  intro i hi
  rw [slot_exists hi]
  refine (View.write_emb_of_mem _ _ (Finset.mem_univ _)).trans ?_
  erw [rslot_emb]
  show G ((gch p).view.emb (ix2 (i 1) (i 2))) = G (gix p (i 1).val (i 1).isLt (i 2))
  rw [← gch_emb p (i 1) (i 2)]

/-- A chunk of the column copied into its slot. -/
theorem ycopy (p : ℕ) (f : S16x1024x1.Idx → Elt F .f32) (y : S131072x1.Idx → Elt F .f32) :
    ∀ i ∈ yslotSet p, (yslot p).view.write (Elt F) f ((ych p).view.read (Elt F) y) Finset.univ i = fillY p y i := by
  intro i hi
  rw [yslot_exists hi]
  refine (View.write_emb_of_mem _ _ (Finset.mem_univ _)).trans ?_
  erw [yslot_emb]
  show y ((ych p).view.emb (ix2 (i 1) (i 2))) = y (yix p (i 1).val (i 1).isLt (i 2))
  rw [← ych_emb p (i 1) (i 2)]

/-- A slot copied out into its chunk of the result. -/
theorem rcopy (p : ℕ) (f : S262144x128.Idx → Elt F .f32) (A : S262144x128.Idx → Elt F .f32) :
    ∀ i ∈ chunkSet p, (rch p).view.write (Elt F) f ((rslot p).view.read (Elt F) (fillG p A)) Finset.univ i = A i := by
  intro i hi
  have hr : (i 0).val % 2048 < 2048 := Nat.mod_lt _ (by norm_num)
  have e : i = (rch p).view.emb (ix2 ⟨(i 0).val % 2048, hr⟩ (i 1)) := (chunk_row hi).trans (rch_emb p ⟨_, hr⟩ (i 1)).symm
  conv_lhs => rw [e]
  refine (View.write_emb_of_mem _ _ (Finset.mem_univ _)).trans ?_
  show fillG p A ((rslot p).view.emb (ix2 ⟨(i 0).val % 2048, hr⟩ (i 1))) = A i
  erw [rslot_emb]
  show A (gix p ((i 0).val % 2048) hr (i 1)) = A i
  rw [← chunk_row hi]

end Cert.Proof.Ring

end
-- ==== Proof.Contents.lean ====
/-
  What one trip leaves in its slot, as functions of whole arrays: `addA`, the odd rows plus the encoding of `y`; `fixA`,
  one row taken back out; and the equations between the kernel's payloads, written through its rectangles, and these.
-/
module

public import proofs.«01_k».proof.Proof.Names

@[expose] public section

noncomputable section

namespace Cert.Proof.Ring

open Cert.KernelIdeal Cert.KernelIdeal.Gen
open Idealize.ShloMosaic Idealize.ShloMosaic.TcCoe
open Idealize.ShloMosaic.ValueIdx

variable {F : FTy → Type} [FloatOps F]

/-- The encoding of one entry of `y` at lane `q`: times the weight, plus the bias. -/
def encAt (e : Elt F .f32) (W B : S1x128.Idx → Elt F .f32) (q : Fin 128) : Elt F .f32 :=
  FloatOps.addf (F := F) (φ := .f32) (FloatOps.mulf (F := F) (φ := .f32) e (W (ix2 0 q))) (B (ix2 0 q))

/-- The graph with the encoding of `y`'s entry `i` added to row `2 i + 1`. -/
def addA (Y : S131072x1.Idx → Elt F .f32) (W B : S1x128.Idx → Elt F .f32) (G : S262144x128.Idx → Elt F .f32) :
    S262144x128.Idx → Elt F .f32 := fun i =>
  if (i 0).val % 2 = 1 then
    FloatOps.addf (F := F) (φ := .f32) (G i)
      (encAt (Y (ix2 ⟨(i 0).val / 2, by have h : (i 0).val < 262144 := (i 0).isLt; omega⟩ 0)) W B (i 1))
  else G i

/-- One at row `v`, zero elsewhere. -/
def hitAt (r : ℕ) (v : BitVec 32) : Elt F .f32 := FloatOps.sitofp (F := F) .f32 (if r = v.toNat then 1#32 else 0#32)

/-- The array with the encoding of `e` subtracted at row `v` (and zero times it from the other rows of the same
    eight). -/
def fixA (v : BitVec 32) (e : Elt F .f32) (W B : S1x128.Idx → Elt F .f32) (A : S262144x128.Idx → Elt F .f32) :
    S262144x128.Idx → Elt F .f32 := fun i =>
  if v.toNat / 8 = (i 0).val / 8 then
    FloatOps.subf (F := F) (φ := .f32) (A i) (FloatOps.mulf (F := F) (φ := .f32) (hitAt (i 0).val v) (encAt e W B (i 1)))
  else A i

/-! ## The rectangles of a trip -/

theorem odd_inb (p : ℕ) : ∀ a, S1x1024x128.size a = 0 ∨
    (![p % 16, 1, 0] : Fin 3 → ℕ) a + (![1, 2, 1] : Fin 3 → ℕ) a * (S1x1024x128.size a - 1) < S16x2048x128.size a := by
  intro a; right; fin_cases a
  · show p % 16 + 1 * (1 - 1) < 16; omega
  · show 1 + 2 * (1024 - 1) < 2048; omega
  · show 0 + 1 * (128 - 1) < 128; omega

/-- The odd rows of slot `p % 16`. -/
def oddR (p : ℕ) : Rect S16x2048x128 := ⟨⟨![p % 16, 1, 0], S1x1024x128.size, ![1, 2, 1], odd_inb p⟩, spos_1_2_1⟩

theorem win_inb (p : ℕ) {w : ℕ} (hw : w + 8 ≤ 2048) : ∀ a, (![p % 16, w, 0] : Fin 3 → ℕ) a + S1x8x128.size a ≤ S16x2048x128.size a := by
  intro a; fin_cases a
  · show p % 16 + 1 ≤ 16; omega
  · show w + 8 ≤ 2048; omega
  · show 0 + 128 ≤ 128; omega

/-- Eight rows of slot `p % 16`, from row `w`. -/
def winR (p w : ℕ) (hw : w + 8 ≤ 2048) : Rect S16x2048x128 := Rect.unit (s := S16x2048x128) ![p % 16, w, 0] S1x8x128.size (win_inb p hw)

theorem oddR_idx (p : ℕ) (r : Fin 1024) (q : Fin 128) :
    (oddR p).toLoadRect.idx (ix3 0 r q) = (ix3 ⟨p % 16, by omega⟩ ⟨1 + 2 * r.val, by omega⟩ q : S16x2048x128.Idx) := by
  apply Shape.idx3_ext
  · show p % 16 + 1 * 0 = p % 16; omega
  · show 1 + 2 * r.val = 1 + 2 * r.val; rfl
  · show 0 + 1 * q.val = q.val; omega

theorem winR_idx (p w : ℕ) (hw : w + 8 ≤ 2048) (r : Fin 8) (q : Fin 128) :
    (winR p w hw).toLoadRect.idx (ix3 0 r q) = (ix3 ⟨p % 16, by omega⟩ ⟨w + r.val, by omega⟩ q : S16x2048x128.Idx) := by
  apply Shape.idx3_ext
  · show p % 16 + 1 * 0 = p % 16; omega
  · show w + 1 * r.val = w + r.val; omega
  · show 0 + 1 * q.val = q.val; omega

/-- A write through a rectangle of the ring, at an element of the rectangle; -/
theorem ring_write_idx (R : Rect S16x2048x128) (f : S16x2048x128.Idx → Elt F .f32) (w : R.shape.Idx → Elt F .f32) (x : R.shape.Idx) :
    (gbM.access R).write (Elt F) f w Finset.univ (R.toLoadRect.idx x) = w x :=
  View.write_emb_of_mem (v := (gbM.access R)) f w (Finset.mem_univ x)

/-- off it. -/
theorem ring_write_off (R : Rect S16x2048x128) (f : S16x2048x128.Idx → Elt F .f32) (w : R.shape.Idx → Elt F .f32) (i : S16x2048x128.Idx)
    (h : ∀ x, R.toLoadRect.idx x ≠ i) : (gbM.access R).write (Elt F) f w Finset.univ i = f i :=
  View.write_of_not_mem (v := (gbM.access R)) f w Finset.univ fun hm => by
    obtain ⟨x, -, hx⟩ := Finset.mem_map.mp hm
    exact h x hx

theorem oddR_sub (p : ℕ) : gbM.view.setOn (oddR p).set ⊆ slotSet p := by
  intro i hi
  obtain ⟨j, hj, rfl⟩ := Finset.mem_map.mp hi
  obtain ⟨x, rfl⟩ := LoadRect.exists_idx_of_mem _ hj
  rw [mem_slotSet]
  show p % 16 + 1 * (x 0).val = p % 16
  have : (x 0).val < 1 := (x 0).isLt
  omega

theorem winR_sub (p w : ℕ) (hw : w + 8 ≤ 2048) : gbM.view.setOn (winR p w hw).set ⊆ slotSet p := by
  intro i hi
  obtain ⟨j, hj, rfl⟩ := Finset.mem_map.mp hi
  obtain ⟨x, rfl⟩ := LoadRect.exists_idx_of_mem _ hj
  rw [mem_slotSet]
  show p % 16 + 1 * (x 0).val = p % 16
  have : (x 0).val < 1 := (x 0).isLt
  omega

/-! ## The payloads at an index -/

theorem pay17_at (v : S1x1024x1.Idx → Elt F .f32) (W B : S1x128.Idx → Elt F .f32) (r : Fin 1024) (q : Fin 128) :
    k0_pay17 (F := F) v W B (ix2 r q) = encAt (v (ix3 0 r 0)) W B q := by
  unfold k0_pay17 encAt
  show FloatOps.addf (FloatOps.mulf (broadcastTo S1024x128 (shapeCast S1024x1 v _) _ (ix2 r q)) (broadcastTo S1024x128 (shapeCast S1x128 W _) _ (ix2 r q)))
    (broadcastTo S1024x128 (shapeCast S1x128 B _) _ (ix2 r q)) = _
  rw [shapeCast_self, shapeCast_self, broadcastTo_1b_ab_apply, broadcastTo_1b_ab_apply]
  rw [broadcastTo_apply _ _ (ix2 r q) (ix2 r 0) (by intro a; fin_cases a <;> rfl)]
  rw [shapeCast_1ab_ab_apply]

theorem pay18_at (e : FVec F S1024x128 .f32) (v : S1x1024x128.Idx → Elt F .f32) (r : Fin 1024) (q : Fin 128) :
    k0_pay18 (F := F) e v (ix3 0 r q) = FloatOps.addf (F := F) (φ := .f32) (v (ix3 0 r q)) (e (ix2 r q)) := by
  unfold k0_pay18
  rw [shapeCast_ab_1ab_apply]
  show FloatOps.addf (shapeCast S1024x128 v _ (ix2 r q)) _ = _
  rw [shapeCast_1ab_ab_apply]

theorem pay19_at (e : FVec F S8x128 .f32) (r : Fin 8) (q : Fin 128) : k0_pay19 (F := F) e (ix3 0 r q) = e (ix2 r q) := by
  unfold k0_pay19
  rw [shapeCast_ab_1ab_apply]

theorem pay1_at (x : BitVec 32) (e : Elt F .f32) (W B : S1x128.Idx → Elt F .f32) (v : S1x8x128.Idx → Elt F .f32) (r : Fin 8) (q : Fin 128) :
    k0_pay1 (F := F) x e W B v (ix2 r q) = FloatOps.subf (F := F) (φ := .f32) (v (ix3 0 r q))
      (FloatOps.mulf (F := F) (φ := .f32)
        (FloatOps.sitofp (F := F) .f32 ((IntOp.cmpi .eq (IntOp.addi (BitVec.ofNat 32 r.val) (winOf (clip x))) (clip x)).setWidth 32))
        (encAt e W B q)) := by
  unfold k0_pay1
  show FloatOps.subf (shapeCast S8x128 v _ (ix2 r q)) (FloatOps.mulf (broadcastTo S8x128 _ _ (ix2 r q)) (broadcastTo S8x128 _ _ (ix2 r q))) = _
  rw [shapeCast_1ab_ab_apply, broadcastTo_1b_ab_apply,
    broadcastTo_apply _ _ (ix2 r q) (ix2 r 0) (by intro a; fin_cases a <;> rfl)]
  rw [shapeCast_self, shapeCast_self]
  show FloatOps.subf _ (FloatOps.mulf (FloatOps.sitofp .f32 (BitVec.setWidth 32 (IntOp.cmpi .eq (IntOp.addi (BitVec.ofNat 32 (0 * 8 + r.val)) (winOf (clip x))) (clip x)))) _) = _
  rw [Nat.zero_mul, Nat.zero_add]
  rfl

/-! ## The two steps -/

/-- Ticket `k`'s slot after the strided store: the encoding added to the odd rows. -/
theorem add_step (k : ℕ) (Y : S131072x1.Idx → Elt F .f32) (W B : S1x128.Idx → Elt F .f32) (G : S262144x128.Idx → Elt F .f32)
    (v : S1x1024x1.Idx → Elt F .f32) (hv : ∀ r : Fin 1024, v (ix3 0 r 0) = Y (yix k r.val r.isLt 0))
    (g : S1x1024x128.Idx → Elt F .f32) (hg : ∀ x, g x = fillG k G ((oddR k).toLoadRect.idx x)) :
    ∀ i ∈ slotSet k, (gbM.access (oddR k)).write (Elt F) (fillG k G) (k0_pay18 (k0_pay17 v W B) g) Finset.univ i
      = fillG k (addA Y W B G) i := by
  intro i hi
  have h0 := mem_slotSet.mp hi
  have h1 : (i 1).val < 2048 := (i 1).isLt
  by_cases hodd : (i 1).val % 2 = 1
  · have hr : (i 1).val / 2 < 1024 := by omega
    have e : i = (oddR k).toLoadRect.idx (ix3 0 ⟨(i 1).val / 2, hr⟩ (i 2)) := by
      refine Eq.trans ?_ (oddR_idx k ⟨(i 1).val / 2, hr⟩ (i 2)).symm
      refine Shape.idx3_ext h0 ?_ rfl
      show (i 1).val = 1 + 2 * ((i 1).val / 2); omega
    conv_lhs => rw [e]
    refine (ring_write_idx _ _ _ _).trans ?_
    refine (pay18_at _ _ _ _).trans ?_
    rw [hg, ← e]
    refine (congrArg (FloatOps.addf (F := F) (φ := .f32) (fillG k G i)) (pay17_at _ _ _ _ _)).trans ?_
    rw [hv]
    unfold fillG addA
    have hrow : (gix k (i 1).val (i 1).isLt (i 2) 0).val = 2048 * (k % 128) + (i 1).val := rfl
    rw [if_pos (by rw [hrow]; omega)]
    congr 2
    refine congrArg Y (idx2_ext ?_ rfl)
    show 1024 * (k % 128) + (i 1).val / 2 = (2048 * (k % 128) + (i 1).val) / 2
    omega
  · refine (ring_write_off _ _ _ _ ?_).trans ?_
    · intro x hx
      apply hodd
      have : (i 1).val = 1 + 2 * (x 1).val := by rw [← hx]; rfl
      omega
    · unfold fillG addA
      have hrow : (gix k (i 1).val (i 1).isLt (i 2) 0).val = 2048 * (k % 128) + (i 1).val := rfl
      rw [if_neg (by rw [hrow]; omega)]

/-- Taking a row out that lies in another chunk changes nothing here. -/
theorem fix_skip {k : ℕ} (hk : k < 128) {v : BitVec 32} (h : ¬ v.toNat / 2048 = k) (e : Elt F .f32) (W B : S1x128.Idx → Elt F .f32)
    (A : S262144x128.Idx → Elt F .f32) : fillG k (fixA v e W B A) = fillG k A := by
  funext i
  have h1 : (i 1).val < 2048 := (i 1).isLt
  unfold fillG fixA
  have hrow : (gix k (i 1).val (i 1).isLt (i 2) 0).val = 2048 * (k % 128) + (i 1).val := rfl
  rw [if_neg (by rw [hrow]; omega)]

/-- Ticket `k`'s slot after the window of a row of its chunk is stored back. -/
theorem fix_step (k : Fin k0_t1_loop.trips) {v : BitVec 32} (h : v.toNat / 2048 = k.val) (e : Elt F .f32) (W B : S1x128.Idx → Elt F .f32)
    (A : S262144x128.Idx → Elt F .f32) {w : ℕ} (hw : w + 8 ≤ 2048) (hwe : w = (winOf (clip (relRow k v))).toNat)
    (g : S1x8x128.Idx → Elt F .f32) (hg : ∀ x, g x = fillG k.val A ((winR k.val w hw).toLoadRect.idx x)) :
    ∀ i ∈ slotSet k.val, (gbM.access (winR k.val w hw)).write (Elt F) (fillG k.val A) (k0_pay19 (k0_pay1 (relRow k v) e W B g)) Finset.univ i
      = fillG k.val (fixA v e W B A) i := by
  intro i hi
  have hk := trip_lt k
  have h0 := mem_slotSet.mp hi
  have h1 : (i 1).val < 2048 := (i 1).isLt
  have hrr := relRow_of_hit h
  have hlt : (relRow k v).toNat < 2048 := by rw [hrr]; omega
  have hcl : clip (relRow k v) = relRow k v := clip_of_lt hlt
  have hw8 : w = (v.toNat - 2048 * k.val) / 8 * 8 := by rw [hwe, hcl, winOf_toNat hlt, hrr]
  have hrow : (gix k.val (i 1).val (i 1).isLt (i 2) 0).val = 2048 * (k.val % 128) + (i 1).val := rfl
  by_cases hin : w ≤ (i 1).val ∧ (i 1).val < w + 8
  · have hr : (i 1).val - w < 8 := by omega
    have ei : i = (winR k.val w hw).toLoadRect.idx (ix3 0 ⟨(i 1).val - w, hr⟩ (i 2)) := by
      refine Eq.trans ?_ (winR_idx k.val w hw ⟨(i 1).val - w, hr⟩ (i 2)).symm
      refine Shape.idx3_ext h0 ?_ rfl
      show (i 1).val = w + ((i 1).val - w); omega
    conv_lhs => rw [ei]
    refine (ring_write_idx _ _ _ _).trans ?_
    refine (pay19_at _ _ _).trans ?_
    refine (pay1_at _ _ _ _ _ _ _).trans ?_
    rw [hg, ← ei]
    unfold fillG fixA
    rw [if_pos (by rw [hrow]; omega)]
    unfold hitAt
    rw [hrow]
    have hb : (IntOp.cmpi .eq (IntOp.addi (BitVec.ofNat 32 ((i 1).val - w)) (winOf (clip (relRow k v)))) (clip (relRow k v))).setWidth 32
        = if 2048 * (k.val % 128) + (i 1).val = v.toNat then 1#32 else 0#32 := by
      have hadd : IntOp.addi (BitVec.ofNat 32 ((i 1).val - w)) (winOf (clip (relRow k v))) = BitVec.ofNat 32 (i 1).val := by
        apply BitVec.eq_of_toNat_eq
        simp only [IntOp.addi, BitVec.toNat_add, BitVec.toNat_ofNat]
        rw [← hwe]; omega
      rw [hadd, hcl]
      by_cases hv : 2048 * (k.val % 128) + (i 1).val = v.toNat
      · rw [if_pos hv]
        have : BitVec.ofNat 32 (i 1).val = relRow k v := by
          apply BitVec.eq_of_toNat_eq
          rw [hrr, BitVec.toNat_ofNat]; omega
        rw [this]; simp [IntOp.cmpi]
      · rw [if_neg hv]
        have : BitVec.ofNat 32 (i 1).val ≠ relRow k v := by
          intro hc
          have := congrArg BitVec.toNat hc
          rw [hrr, BitVec.toNat_ofNat] at this
          omega
        have hf : (BitVec.ofNat 32 (i 1).val == relRow k v) = false := by rw [beq_eq_false_iff_ne]; exact this
        show BitVec.setWidth 32 (BitVec.ofBool (BitVec.ofNat 32 (i 1).val == relRow k v)) = 0#32
        rw [hf]; rfl
    rw [hb]
    rfl
  · refine (ring_write_off _ _ _ _ ?_).trans ?_
    · intro x hx
      apply hin
      have e1 : (i 1).val = w + 1 * (x 1).val := by rw [← hx]; rfl
      have : (x 1).val < 8 := (x 1).isLt
      omega
    · unfold fillG fixA
      rw [if_neg (by rw [hrow]; omega)]

end Cert.Proof.Ring

end
-- ==== Proof.Steps.lean ====
/-
  The single steps of the ring, each as a rule of the program logic: a transfer issued and waited for, a word read, the
  window of one row taken out. The pieces a core holds are stated on explicit sets of elements at whole-array contents.
-/
module

public import proofs.«01_k».proof.Proof.Contents
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Ring
public import Idealize.ShloMosaic.Lib.Tactic

@[expose] public section

noncomputable section

namespace Cert.Proof.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The resource algebra: the launch's, beside the counters the kernel's own transfers ride on. -/
abbrev UU (nD : Nat) (τ : Topo) : Type := UR sig nD τ × Counters
local notation "𝕄" => MT nD τ sig Unit (Elt F) ℕ (UU nD τ) ℕ
abbrev 𝒱₀ : Variants := Variants.none

/-- The weakest precondition of a program of core `c`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

variable (c : Dev nD)

/-! ## The pieces -/

/-- Slot `p % 16` of the graph ring at `f`; -/
def slotP (p : ℕ) (f : S16x2048x128.Idx → Elt F .f32) : sProp 𝕄 := gbM.view.loc (c : Thread nD τ) ↦[slotSet p]{fullShare} f
/-- of the `y` ring. -/
def yslotP (p : ℕ) (f : S16x1024x1.Idx → Elt F .f32) : sProp 𝕄 := ybM.view.loc (c : Thread nD τ) ↦[yslotSet p]{fullShare} f
/-- Chunk `p` of the graph at `G`; -/
def gchP (G : S262144x128.Idx → Elt F .f32) (p : ℕ) : sProp 𝕄 := gM.view.loc (c : Thread nD τ) ↦[chunkSet p]{fullShare} G
/-- of the column at `Y`; -/
def ychP (Y : S131072x1.Idx → Elt F .f32) (p : ℕ) : sProp 𝕄 := yM.view.loc (c : Thread nD τ) ↦[ychunkSet p]{fullShare} Y
/-- of the result at `R`. -/
def rchP (R : S262144x128.Idx → Elt F .f32) (p : ℕ) : sProp 𝕄 := rM.view.loc (c : Thread nD τ) ↦[chunkSet p]{fullShare} R
/-- A semaphore at zero. -/
def zeroP (s : DmaSem sig) : sProp 𝕄 := semVal ((c : Thread nD τ), SemLoc.dma s) 0
/-- What the core owes: nothing, whatever it has waited for. -/
def owesP : sProp 𝕄 := iprop(∃ W, owes (c : Thread nD τ) 0 W)

/-- The units of a graph chunk's transfer into its slot; -/
def unitsG : ℕ := (rslot 0).view.dmaCredit
/-- of a `y` chunk's; -/
def unitsY : ℕ := (yslot 0).view.dmaCredit
/-- of a result chunk's. -/
def unitsR : ℕ := (rch 0).view.dmaCredit

/-- Ticket `p`'s graph chunk in flight into its slot; -/
def inFlightG (G : S262144x128.Idx → Elt F .f32) (p : ℕ) : sProp 𝕄 :=
  Transfers.Flight countersEmb (c : Thread nD τ) (SemLoc.dma (gsem p)) () unitsG iprop(slotP c p (fillG p G) ∗ gchP c G p)
/-- its `y` chunk; -/
def inFlightY (Y : S131072x1.Idx → Elt F .f32) (p : ℕ) : sProp 𝕄 :=
  Transfers.Flight countersEmb (c : Thread nD τ) (SemLoc.dma (ysem p)) () unitsY iprop(yslotP c p (fillY p Y) ∗ ychP c Y p)
/-- its slot out into its chunk of the result. -/
def outFlight (R : S262144x128.Idx → Elt F .f32) (p : ℕ) : sProp 𝕄 :=
  Transfers.Flight countersEmb (c : Thread nD τ) (SemLoc.dma (osem p)) () unitsR iprop(rchP c R p ∗ slotP c p (fillG p R))

theorem entails_of_eq {P Q : sProp 𝕄} (e : P = Q) : P ⊢ Q := e ▸ .rfl

/-! ## Issuing a transfer -/

/-- Ticket `p`'s graph chunk is issued into its slot. -/
theorem issueG (G : S262144x128.Idx → Elt F .f32) (p : ℕ) (f : S16x2048x128.Idx → Elt F .f32)
    {src : Memref sig .tc .hbm S2048x128 .f32} {dst : Memref sig .tc .vmem S2048x128 .f32} {sm : DmaSem sig}
    (hs : src = gch p) (hd : dst = rslot p) (hm : sm = gsem p) {h1 h2 h3} {Q : PUnit → sProp 𝕄} :
    iprop(slotP c p f ∗ gchP c G p ∗ zeroP c (gsem p)) ⊢ iprop((inFlightG c G p -∗ Q ⟨⟩)
      -∗ WP c (Prog.lift (.enqueueDma src (.here dst) (.dma sm) h1 h2 h3)) Q) := by
  subst hs hd hm
  have e1 := pointsTo_congr (Ix := Unit) (Name := ℕ) (U := UU nD τ) (Lvl := ℕ) (q := fullShare) (ℓ := gbM.view.loc (c : Thread nD τ)) (gcopy p f G)
  have e : Transfers.Flight countersEmb (c : Thread nD τ) (SemLoc.dma (gsem p)) () unitsG
      iprop(((rslot p).view.loc (c : Thread nD τ) ↦[slotSet p]{fullShare} ((rslot p).view.write (Elt F) f (ReadAs.same.apply ((gch p).view.read (Elt F) G)) Finset.univ))
        ∗ ((gch p).view.loc (c : Thread nD τ) ↦[(gch p).view.set]{fullShare} G)) = (inFlightG c G p : sProp 𝕄) := by
    unfold inFlightG slotP gchP
    rw [gch_set, ← e1]; rfl
  unfold slotP gchP zeroP
  iintro ⟨Hd, Hs, Hv⟩ Hk
  iapply (Transfers.wp_dmaLocal countersEmb 𝒱₀ (c : Thread nD τ) none () unitsG (src := gch p) (dst := rslot p)
    (sm := .dma (gsem p)) (fs := G) (Sd := slotSet p) (fd := f) (q := fullShare) rfl (View.dmaCredit_pos _ (by decide)) (rslot_set p).le) $$ [Hd Hs Hv]
  · isplitl [Hs]
    · irw [gch_set]; iexact Hs
    isplitl [Hd]; · iexact Hd
    iexact Hv
  iintro HF
  simp only [wp_ret]
  imodintro
  iapply Hk
  iapply (entails_of_eq e) $$ HF

/-- Ticket `p`'s chunk of the column is issued into its slot. -/
theorem issueY (Y : S131072x1.Idx → Elt F .f32) (p : ℕ) (f : S16x1024x1.Idx → Elt F .f32)
    {src : Memref sig .tc .hbm S1024x1 .f32} {dst : Memref sig .tc .vmem S1024x1 .f32} {sm : DmaSem sig}
    (hs : src = ych p) (hd : dst = yslot p) (hm : sm = ysem p) {h1 h2 h3} {Q : PUnit → sProp 𝕄} :
    iprop(yslotP c p f ∗ ychP c Y p ∗ zeroP c (ysem p)) ⊢ iprop((inFlightY c Y p -∗ Q ⟨⟩)
      -∗ WP c (Prog.lift (.enqueueDma src (.here dst) (.dma sm) h1 h2 h3)) Q) := by
  subst hs hd hm
  have e1 := pointsTo_congr (Ix := Unit) (Name := ℕ) (U := UU nD τ) (Lvl := ℕ) (q := fullShare) (ℓ := ybM.view.loc (c : Thread nD τ)) (ycopy p f Y)
  have e : Transfers.Flight countersEmb (c : Thread nD τ) (SemLoc.dma (ysem p)) () unitsY
      iprop(((yslot p).view.loc (c : Thread nD τ) ↦[yslotSet p]{fullShare} ((yslot p).view.write (Elt F) f (ReadAs.same.apply ((ych p).view.read (Elt F) Y)) Finset.univ))
        ∗ ((ych p).view.loc (c : Thread nD τ) ↦[(ych p).view.set]{fullShare} Y)) = (inFlightY c Y p : sProp 𝕄) := by
    unfold inFlightY yslotP ychP
    rw [ych_set, ← e1]; rfl
  unfold yslotP ychP zeroP
  iintro ⟨Hd, Hs, Hv⟩ Hk
  iapply (Transfers.wp_dmaLocal countersEmb 𝒱₀ (c : Thread nD τ) none () unitsY (src := ych p) (dst := yslot p)
    (sm := .dma (ysem p)) (fs := Y) (Sd := yslotSet p) (fd := f) (q := fullShare) rfl (View.dmaCredit_pos _ (by decide)) (yslot_set p).le) $$ [Hd Hs Hv]
  · isplitl [Hs]
    · irw [ych_set]; iexact Hs
    isplitl [Hd]; · iexact Hd
    iexact Hv
  iintro HF
  simp only [wp_ret]
  imodintro
  iapply Hk
  iapply (entails_of_eq e) $$ HF

/-- Ticket `p`'s slot, holding chunk `p` of `R`, is issued out to the result. -/
theorem issueR (R : S262144x128.Idx → Elt F .f32) (p : ℕ) (f : S262144x128.Idx → Elt F .f32)
    {src : Memref sig .tc .vmem S2048x128 .f32} {dst : Memref sig .tc .hbm S2048x128 .f32} {sm : DmaSem sig}
    (hs : src = rslot p) (hd : dst = rch p) (hm : sm = osem p) {h1 h2 h3} {Q : PUnit → sProp 𝕄} :
    iprop(slotP c p (fillG p R) ∗ rchP c f p ∗ zeroP c (osem p)) ⊢ iprop((outFlight c R p -∗ Q ⟨⟩)
      -∗ WP c (Prog.lift (.enqueueDma src (.here dst) (.dma sm) h1 h2 h3)) Q) := by
  subst hs hd hm
  have e1 := pointsTo_congr (Ix := Unit) (Name := ℕ) (U := UU nD τ) (Lvl := ℕ) (q := fullShare) (ℓ := rM.view.loc (c : Thread nD τ)) (rcopy p f R)
  have e : Transfers.Flight countersEmb (c : Thread nD τ) (SemLoc.dma (osem p)) () unitsR
      iprop(((rch p).view.loc (c : Thread nD τ) ↦[chunkSet p]{fullShare} ((rch p).view.write (Elt F) f (ReadAs.same.apply ((rslot p).view.read (Elt F) (fillG p R))) Finset.univ))
        ∗ ((rslot p).view.loc (c : Thread nD τ) ↦[(rslot p).view.set]{fullShare} (fillG p R))) = (outFlight c R p : sProp 𝕄) := by
    unfold outFlight slotP rchP
    rw [rslot_set, ← e1]; rfl
  unfold slotP rchP zeroP
  iintro ⟨Hs, Hd, Hv⟩ Hk
  iapply (Transfers.wp_dmaLocal countersEmb 𝒱₀ (c : Thread nD τ) none () unitsR (src := rslot p) (dst := rch p)
    (sm := .dma (osem p)) (fs := fillG p R) (Sd := chunkSet p) (fd := f) (q := fullShare) rfl (View.dmaCredit_pos _ (by decide)) (rch_set p).le) $$ [Hd Hs Hv]
  · isplitl [Hs]
    · irw [rslot_set]; iexact Hs
    isplitl [Hd]; · iexact Hd
    iexact Hv
  iintro HF
  simp only [wp_ret]
  imodintro
  iapply Hk
  iapply (entails_of_eq e) $$ HF

/-! ## Waiting for it -/

/-- A wait for a flight of `N` units, whatever it delivers: the delivery, the semaphore at zero. -/
theorem waitFlight {sp sp' : Space} {s s' : Shape} {e e' : EltTy} {N : ℕ} {D : sProp 𝕄} (p : DmaSem sig)
    {src : Memref sig .tc sp' s' e'} {dst : Memref sig .tc sp s e} {sm : DmaSem sig} (hm : sm = p) (hN : dst.view.dmaCredit = N)
    {h1 h2} {Q : PUnit → sProp 𝕄} :
    iprop(Transfers.Flight countersEmb (c : Thread nD τ) (SemLoc.dma p) () N D ∗ owesP c) ⊢ iprop(((D ∗ zeroP c p ∗ owesP c) -∗ Q ⟨⟩)
      -∗ WP c (Prog.lift (.waitDma2 sm src dst h1 h2)) Q) := by
  subst hm
  unfold owesP zeroP
  iintro ⟨HF, ⟨%W, HW⟩⟩ Hk
  iapply (Transfers.wp_waitLocal countersEmb 𝒱₀ (c : Thread nD τ) none () hN) $$ [HF HW]
  · isplitl [HF]; · iexact HF
    iexact HW
  iintro ⟨HD, Hv, HW⟩
  simp only [wp_ret]
  imodintro
  iapply Hk
  isplitl [HD]; · iexact HD
  isplitl [Hv]; · iexact Hv
  iexists _; iexact HW

/-- Ticket `p`'s graph chunk has arrived; -/
theorem waitG (G : S262144x128.Idx → Elt F .f32) (p : ℕ)
    {src : Memref sig .tc .hbm S2048x128 .f32} {dst : Memref sig .tc .vmem S2048x128 .f32} {sm : DmaSem sig}
    (hd : dst = rslot p) (hm : sm = gsem p) {h1 h2} {Q : PUnit → sProp 𝕄} :
    iprop(inFlightG c G p ∗ owesP c) ⊢ iprop(((slotP c p (fillG p G) ∗ gchP c G p) ∗ zeroP c (gsem p) ∗ owesP c -∗ Q ⟨⟩)
      -∗ WP c (Prog.lift (.waitDma2 sm src dst h1 h2)) Q) := by
  unfold inFlightG
  exact waitFlight c (gsem p) hm (by rw [hd]; rfl)

/-- its chunk of the column; -/
theorem waitY (Y : S131072x1.Idx → Elt F .f32) (p : ℕ)
    {src : Memref sig .tc .hbm S1024x1 .f32} {dst : Memref sig .tc .vmem S1024x1 .f32} {sm : DmaSem sig}
    (hd : dst = yslot p) (hm : sm = ysem p) {h1 h2} {Q : PUnit → sProp 𝕄} :
    iprop(inFlightY c Y p ∗ owesP c) ⊢ iprop(((yslotP c p (fillY p Y) ∗ ychP c Y p) ∗ zeroP c (ysem p) ∗ owesP c -∗ Q ⟨⟩)
      -∗ WP c (Prog.lift (.waitDma2 sm src dst h1 h2)) Q) := by
  unfold inFlightY
  exact waitFlight c (ysem p) hm (by rw [hd]; rfl)

/-- its chunk of the result has left. -/
theorem waitR (R : S262144x128.Idx → Elt F .f32) (p : ℕ)
    {src : Memref sig .tc .vmem S2048x128 .f32} {dst : Memref sig .tc .hbm S2048x128 .f32} {sm : DmaSem sig}
    (hd : dst = rch p) (hm : sm = osem p) {h1 h2} {Q : PUnit → sProp 𝕄} :
    iprop(outFlight c R p ∗ owesP c) ⊢ iprop(((rchP c R p ∗ slotP c p (fillG p R)) ∗ zeroP c (osem p) ∗ owesP c -∗ Q ⟨⟩)
      -∗ WP c (Prog.lift (.waitDma2 sm src dst h1 h2)) Q) := by
  unfold outFlight
  exact waitFlight c (osem p) hm (by rw [hd]; rfl)

/-! ## The tables -/

/-- The row numbers, the entries that go with them, the weight row and the bias row. -/
def tabs (O : S1x16.Idx → BitVec 32) (E : S1x16.Idx → Elt F .f32) (W B : S1x128.Idx → Elt F .f32) : sProp 𝕄 :=
  iprop((oM.view.loc (c : Thread nD τ) ↦{fullShare} O) ∗ (fM.view.loc (c : Thread nD τ) ↦{fullShare} E)
    ∗ (wM.view.loc (c : Thread nD τ) ↦{fullShare} W) ∗ (bM.view.loc (c : Thread nD τ) ↦{fullShare} B))

/-- Entry `j` of a table of sixteen. -/
def col (j : ℕ) : S1x16.Idx := ix2 0 ⟨j % 16, Nat.mod_lt _ (by norm_num)⟩

theorem word_inb (j : ℕ) : ∀ a, (![0, j % 16] : Fin 2 → ℕ) a + S1x1.size a ≤ S1x16.size a := by
  intro a; fin_cases a
  · show 0 + 1 ≤ 1; omega
  · show j % 16 + 1 ≤ 16; omega

/-- Row number `j` is read. -/
theorem readO (O : S1x16.Idx → BitVec 32) (E : S1x16.Idx → Elt F .f32) (W B : S1x128.Idx → Elt F .f32) (j : ℕ)
    {r : Rect S1x16} (hr : r = Rect.unit (s := S1x16) ![0, j % 16] S1x1.size (word_inb j)) {h1 h2} {Q : BitVec 32 → sProp 𝕄} :
    tabs c O E W B ⊢ iprop((tabs c O E W B -∗ Q (O (col j)))
      -∗ WP c (smemLoad (nD := nD) (τ := τ) (Val := Elt F) (Λ := Λ₀) (p := .tc) oM r h1 h2) Q) := by
  subst hr
  have e : (oM.access (Rect.unit (s := S1x16) ![0, j % 16] S1x1.size (word_inb j))).read (Elt F) O (Shape.Idx.first (h1.symm ▸ Nat.one_pos)) = O (col j) :=
    congrArg O (idx2_ext rfl rfl)
  unfold tabs smemLoad
  iintro ⟨HO, HE, HW, HB⟩ Hk
  iapply (wp_smemLoadElt (defs := defs₀ (F := F)) 𝒱₀ (c : Thread nD τ) none Set.univ (m := oM) (r := Rect.unit (s := S1x16) ![0, j % 16] S1x1.size (word_inb j))
    (S := Finset.univ) (f := O) (q := fullShare) (Finset.subset_univ _)) $$ HO
  iintro HO
  simp only [wp_ret]
  imodintro
  irw [e]
  iapply Hk
  isplitl [HO]; · iexact HO
  isplitl [HE]; · iexact HE
  isplitl [HW]; · iexact HW
  iexact HB

/-- Entry `j` of the sixteen is read. -/
theorem readE (O : S1x16.Idx → BitVec 32) (E : S1x16.Idx → Elt F .f32) (W B : S1x128.Idx → Elt F .f32) (j : ℕ)
    {r : Rect S1x16} (hr : r = Rect.unit (s := S1x16) ![0, j % 16] S1x1.size (word_inb j)) {h1 h2} {Q : Elt F .f32 → sProp 𝕄} :
    tabs c O E W B ⊢ iprop((tabs c O E W B -∗ Q (E (col j)))
      -∗ WP c (smemLoad (nD := nD) (τ := τ) (Val := Elt F) (Λ := Λ₀) (p := .tc) fM r h1 h2) Q) := by
  subst hr
  have e : (fM.access (Rect.unit (s := S1x16) ![0, j % 16] S1x1.size (word_inb j))).read (Elt F) E (Shape.Idx.first (h1.symm ▸ Nat.one_pos)) = E (col j) :=
    congrArg E (idx2_ext rfl rfl)
  unfold tabs smemLoad
  iintro ⟨HO, HE, HW, HB⟩ Hk
  iapply (wp_smemLoadElt (defs := defs₀ (F := F)) 𝒱₀ (c : Thread nD τ) none Set.univ (m := fM) (r := Rect.unit (s := S1x16) ![0, j % 16] S1x1.size (word_inb j))
    (S := Finset.univ) (f := E) (q := fullShare) (Finset.subset_univ _)) $$ HE
  iintro HE
  simp only [wp_ret]
  imodintro
  irw [e]
  iapply Hk
  isplitl [HO]; · iexact HO
  isplitl [HE]; · iexact HE
  isplitl [HW]; · iexact HW
  iexact HB

/-- The whole of a row of 128. -/
abbrev rowR : Rect S1x128 := Rect.unit (s := S1x128) ![0, 0] S1x128.size inb_S1x128_S1x128_0_0

theorem rowR_idx (x : S1x128.Idx) : rowR.toLoadRect.idx x = x := by
  refine idx2_ext ?_ ?_
  · show 0 + 1 * (x 0).val = (x 0).val; omega
  · show 0 + 1 * (x 1).val = (x 1).val; omega

/-- The weight row is read. -/
theorem readW (O : S1x16.Idx → BitVec 32) (E : S1x16.Idx → Elt F .f32) (W B : S1x128.Idx → Elt F .f32) {h1} {Q : (S1x128.Idx → Elt F .f32) → sProp 𝕄} :
    tabs c O E W B ⊢ iprop((tabs c O E W B -∗ Q W) -∗ WP c (Prog.lift (.load wM rowR.toLoadRect h1)) Q) := by
  have e : wM.view.readAt (Elt F) rowR.toLoadRect W = W := funext fun x => congrArg W (rowR_idx x)
  unfold tabs
  iintro ⟨HO, HE, HW, HB⟩ Hk
  iapply (wp_load (defs := defs₀ (F := F)) 𝒱₀ (c : Thread nD τ) none Set.univ (m := wM) (r := rowR.toLoadRect)
    (S := Finset.univ) (f := W) (q := fullShare) (Finset.subset_univ _)) $$ HW
  iintro HW
  simp only [wp_ret]
  imodintro
  irw [e]
  iapply Hk
  isplitl [HO]; · iexact HO
  isplitl [HE]; · iexact HE
  isplitl [HW]; · iexact HW
  iexact HB

/-- The bias row is read. -/
theorem readB (O : S1x16.Idx → BitVec 32) (E : S1x16.Idx → Elt F .f32) (W B : S1x128.Idx → Elt F .f32) {h1} {Q : (S1x128.Idx → Elt F .f32) → sProp 𝕄} :
    tabs c O E W B ⊢ iprop((tabs c O E W B -∗ Q B) -∗ WP c (Prog.lift (.load bM rowR.toLoadRect h1)) Q) := by
  have e : bM.view.readAt (Elt F) rowR.toLoadRect B = B := funext fun x => congrArg B (rowR_idx x)
  unfold tabs
  iintro ⟨HO, HE, HW, HB⟩ Hk
  iapply (wp_load (defs := defs₀ (F := F)) 𝒱₀ (c : Thread nD τ) none Set.univ (m := bM) (r := rowR.toLoadRect)
    (S := Finset.univ) (f := B) (q := fullShare) (Finset.subset_univ _)) $$ HB
  iintro HB
  simp only [wp_ret]
  imodintro
  irw [e]
  iapply Hk
  isplitl [HO]; · iexact HO
  isplitl [HE]; · iexact HE
  isplitl [HW]; · iexact HW
  iexact HB

/-! ## Reading and writing a slot -/

/-- A rectangle of slot `p` is read. -/
theorem readSlot (p : ℕ) (f : S16x2048x128.Idx → Elt F .f32) {r : LoadRect S16x2048x128} (hr : gbM.view.setOn r.set ⊆ slotSet p) {h1}
    {Q : (r.shape.Idx → Elt F .f32) → sProp 𝕄} :
    slotP c p f ⊢ iprop((slotP c p f -∗ Q fun x => f (r.idx x)) -∗ WP c (Prog.lift (.load gbM r h1)) Q) := by
  have e : gbM.view.readAt (Elt F) r f = fun x => f (r.idx x) := rfl
  unfold slotP
  iintro H Hk
  iapply (wp_load (defs := defs₀ (F := F)) 𝒱₀ (c : Thread nD τ) none Set.univ (m := gbM) (r := r)
    (S := slotSet p) (f := f) (q := fullShare) hr) $$ H
  iintro H
  simp only [wp_ret]
  imodintro
  irw [e]
  iapply Hk
  iexact H

/-- Slot `p` of the `y` ring is read. -/
theorem readYslot (p : ℕ) (f : S16x1024x1.Idx → Elt F .f32) {r : LoadRect S16x1024x1} (hr : ybM.view.setOn r.set ⊆ yslotSet p) {h1}
    {Q : (r.shape.Idx → Elt F .f32) → sProp 𝕄} :
    yslotP c p f ⊢ iprop((yslotP c p f -∗ Q fun x => f (r.idx x)) -∗ WP c (Prog.lift (.load ybM r h1)) Q) := by
  have e : ybM.view.readAt (Elt F) r f = fun x => f (r.idx x) := rfl
  unfold yslotP
  iintro H Hk
  iapply (wp_load (defs := defs₀ (F := F)) 𝒱₀ (c : Thread nD τ) none Set.univ (m := ybM) (r := r)
    (S := yslotSet p) (f := f) (q := fullShare) hr) $$ H
  iintro H
  simp only [wp_ret]
  imodintro
  irw [e]
  iapply Hk
  iexact H

/-- A rectangle of slot `p` is written, which leaves it at `g`. -/
theorem writeSlot (p : ℕ) (f g : S16x2048x128.Idx → Elt F .f32) {r : Rect S16x2048x128} {w : r.shape.Idx → Elt F .f32} (hr : gbM.view.setOn r.set ⊆ slotSet p)
    (hg : ∀ i ∈ slotSet p, (gbM.access r).write (Elt F) f w Finset.univ i = g i) {h1 h2} {Q : PUnit → sProp 𝕄} :
    slotP c p f ⊢ iprop((slotP c p g -∗ Q ⟨⟩) -∗ WP c (Prog.lift (.store gbM r w Finset.univ h1 h2)) Q) := by
  have e1 := pointsTo_congr (Ix := Unit) (Name := ℕ) (U := UU nD τ) (Lvl := ℕ) (q := fullShare) (ℓ := gbM.view.loc (c : Thread nD τ)) hg
  unfold slotP
  iintro H Hk
  iapply (wp_store (defs := defs₀ (F := F)) 𝒱₀ (c : Thread nD τ) none Set.univ (m := gbM) (r := r)
    (S := slotSet p) (f := f) (Mk := Finset.univ) (by
      have h := View.set_slice gbM.view r
      exact h.le.trans hr)) $$ H
  iintro H
  simp only [wp_ret]
  imodintro
  iapply Hk
  iapply (entails_of_eq e1) $$ H

/-! ## One row taken out -/

theorem row_base (k : Fin k0_t1_loop.trips) (v : BitVec 32) (hv : v.toNat / 2048 = k.val) :
    (winOf (clip (relRow k v))).toNat + 8 ≤ 2048 := by
  have hrr := relRow_of_hit hv
  have hlt : (relRow k v).toNat < 2048 := by rw [hrr]; omega
  rw [clip_of_lt hlt, winOf_toNat hlt]; omega

/-- The steps of row number `j`, at offset `x` of the trip's chunk and with its window at `off`; then `J`. -/
def winProg {α : Type} (j : ℕ) (x : BitVec 32) (off : Fin 3 → ℕ) (inb : ∀ a, off a + S1x8x128.size a ≤ S16x2048x128.size a)
    (J : Prog (TpuEff nD τ sig (Elt F) Λ₀ .tc) α) : Prog (TpuEff nD τ sig (Elt F) Λ₀ .tc) α := do
  let e : Elt F .f32 ← smemLoad fM (Rect.unit (s := S1x16) ![0, j % 16] S1x1.size (word_inb j)) numel1_S1x1 rfl
  let w : Vec F S1x128 .f32 ← Prog.lift (.load wM rowR.toLoadRect (View.loadsAt_vmem h_S1x128))
  let b : Vec F S1x128 .f32 ← Prog.lift (.load bM rowR.toLoadRect (View.loadsAt_vmem h_S1x128))
  let g : Vec F S1x8x128 .f32 ← Prog.lift (.load gbM (Rect.unit (s := S16x2048x128) off S1x8x128.size inb).toLoadRect (View.loadsAt_vmem h_S1x8x128))
  let _g' : Vec F S1x8x128 .f32 ← Prog.lift (.load gbM (Rect.unit (s := S16x2048x128) off S1x8x128.size inb).toLoadRect (View.loadsAt_vmem h_S1x8x128))
  Prog.lift (.store gbM (Rect.unit (s := S16x2048x128) off S1x8x128.size inb) (k0_pay19 (k0_pay1 x e w b g)) Finset.univ (View.stores_vmem_bits_univ h_S1x8x128 rfl) (.inl rfl))
  J

/-- Row number `j`, `v`: if it lies in trip `k`'s chunk its encoding is taken out of the slot, else nothing happens; in
    both cases the slot is left at the chunk of `fixA`. -/
theorem takeRow {α : Type} (k : Fin k0_t1_loop.trips) (O : S1x16.Idx → BitVec 32) (E : S1x16.Idx → Elt F .f32) (W B : S1x128.Idx → Elt F .f32)
    (A : S262144x128.Idx → Elt F .f32) (j : ℕ) (v : BitVec 32) {C : Prop} [hdec : Decidable C] (hC : C ↔ v.toNat / 2048 = k.val)
    {off : Fin 3 → ℕ} (hoff : off = ![k.val % 16, (winOf (clip (relRow k v))).toNat, 0])
    {inb : C → ∀ a, off a + S1x8x128.size a ≤ S16x2048x128.size a} {J : Prog (TpuEff nD τ sig (Elt F) Λ₀ .tc) α}
    {p : C → Prog (TpuEff nD τ sig (Elt F) Λ₀ .tc) α} (hp : ∀ h, p h = winProg j (relRow k v) off (inb h) J) {Q : α → sProp 𝕄} :
    iprop(slotP c k.val (fillG k.val A) ∗ tabs c O E W B)
      ⊢ iprop((slotP c k.val (fillG k.val (fixA v (E (col j)) W B A)) ∗ tabs c O E W B -∗ WP c J Q)
        -∗ WP c (dite C p (fun _ => J)) Q) := by
  by_cases h : C
  · subst hoff
    rw [dif_pos h, hp h]
    have hb := row_base k v (hC.mp h)
    unfold winProg
    simp only [wp_bind]
    iintro ⟨HS, HT⟩ Hk
    iapply (readE c O E W B j rfl) $$ HT
    iintro HT
    iapply (readW c O E W B) $$ HT
    iintro HT
    iapply (readB c O E W B) $$ HT
    iintro HT
    iapply (readSlot c k.val (fillG k.val A) (winR_sub k.val _ hb)) $$ HS
    iintro HS
    iapply (readSlot c k.val (fillG k.val A) (winR_sub k.val _ hb)) $$ HS
    iintro HS
    iapply (writeSlot c k.val (fillG k.val A) (fillG k.val (fixA v (E (col j)) W B A)) (winR_sub k.val _ hb)
      (fix_step k (hC.mp h) (E (col j)) W B A hb rfl _ (fun _ => rfl))) $$ HS
    iintro HS
    iapply Hk
    isplitl [HS]; · iexact HS
    iexact HT
  · rw [dif_neg h, fix_skip (trip_lt k) (fun h' => h (hC.mpr h'))]
    iintro H Hk
    iapply Hk; iexact H

/-- The rows taken out by the first `n` of the sixteen row numbers. -/
def fixN (O : S1x16.Idx → BitVec 32) (E : S1x16.Idx → Elt F .f32) (W B : S1x128.Idx → Elt F .f32) (A : S262144x128.Idx → Elt F .f32) :
    ℕ → S262144x128.Idx → Elt F .f32
  | 0 => A
  | j + 1 => fixA (O (col j)) (E (col j)) W B (fixN O E W B A j)

end Cert.Proof.Ring

end
-- ==== Proof.Rows.lean ====
/-
  The middle of a trip: the encoding of the trip's chunk added to its odd rows, then the sixteen rows taken out again.
-/
module

public import proofs.«01_k».proof.Proof.Steps

@[expose] public section

noncomputable section

namespace Cert.Proof.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD)

/-- A check that holds passes. -/
theorem passes {P : Prop} {d : Decidable P} (h : P) {Q : PLift P → sProp 𝕄} :
    Q ⟨h⟩ ⊢ WP c (Prog.lift (.assume P d)) Q := by
  unfold Prog.lift WP
  rw [wp_assume_of 𝒱₀ (c : Thread nD τ) none Set.univ h, wp_ret]
  exact fupd_intro

/-- The first row of the trip's chunk, as the kernel's word. -/
abbrev baseW (k : Fin k0_t1_loop.trips) : BitVec 32 := Scalar.muli (Scf.iv 0#32 1#32 k) 2048#32
/-- The trip's slot, as the kernel's word. -/
abbrev slotW (k : Fin k0_t1_loop.trips) : BitVec 32 := Scalar.remsi (Scf.iv 0#32 1#32 k) 16#32

variable (k : Fin k0_t1_loop.trips) (O : S1x16.Idx → BitVec 32) (E : S1x16.Idx → Elt F .f32) (W B : S1x128.Idx → Elt F .f32)
  (Y : S131072x1.Idx → Elt F .f32) (G : S262144x128.Idx → Elt F .f32)

/-- The slot and the tables after `n` rows have been taken out of the encoded graph. -/
def rowsAt (n : ℕ) : sProp 𝕄 := iprop(slotP c k.val (fillG k.val (fixN O E W B (addA Y W B G) n)) ∗ tabs c O E W B)

/-- Row number `j` of the list, read and taken out. -/
theorem row_read (n : ℕ) {r : Rect S1x16} (hr : r = Rect.unit (s := S1x16) ![0, n % 16] S1x1.size (word_inb n)) {h1 h2} {Q : BitVec 32 → sProp 𝕄} :
    rowsAt c k O E W B Y G n ⊢ iprop((rowsAt c k O E W B Y G n -∗ Q (O (col n)))
      -∗ WP c (smemLoad (nD := nD) (τ := τ) (Val := Elt F) (Λ := Λ₀) (p := .tc) oM r h1 h2) Q) := by
  unfold rowsAt
  iintro ⟨HS, HT⟩ Hk
  iapply (readO c O E W B n hr) $$ HT
  iintro HT
  iapply Hk
  isplitl [HS]; · iexact HS
  iexact HT

theorem row_take {α : Type} (n : ℕ) {C : Prop} [hdec : Decidable C] (hC : C ↔ (O (col n)).toNat / 2048 = k.val)
    {off : Fin 3 → ℕ} (hoff : off = ![k.val % 16, (winOf (clip (relRow k (O (col n))))).toNat, 0])
    {inb : C → ∀ a, off a + S1x8x128.size a ≤ S16x2048x128.size a} {J : Prog (TpuEff nD τ sig (Elt F) Λ₀ .tc) α}
    {p : C → Prog (TpuEff nD τ sig (Elt F) Λ₀ .tc) α} (hp : ∀ h, p h = winProg n (relRow k (O (col n))) off (inb h) J) {Q : α → sProp 𝕄} :
    rowsAt c k O E W B Y G n ⊢ iprop((rowsAt c k O E W B Y G (n + 1) -∗ WP c J Q) -∗ WP c (dite C p (fun _ => J)) Q) :=
  takeRow c k O E W B _ n _ hC hoff hp

/-- The odd rows of the slot are read; -/
theorem odd_read {off : Fin 3 → ℕ} (ho : off = ![k.val % 16, 1, 0]) {inb} {h1} {Q : (S1x1024x128.Idx → Elt F .f32) → sProp 𝕄} :
    slotP c k.val (fillG k.val G) ⊢ iprop((slotP c k.val (fillG k.val G) -∗ Q fun x => fillG k.val G ((oddR k.val).toLoadRect.idx x))
      -∗ WP c (Prog.lift (.load gbM (⟨off, S1x1024x128.size, ![1, 2, 1], inb⟩ : LoadRect S16x2048x128) h1)) Q) := by
  subst ho
  exact readSlot c k.val (fillG k.val G) (r := (oddR k.val).toLoadRect) (oddR_sub k.val)

/-- and written with the encoding added. -/
theorem odd_write {off : Fin 3 → ℕ} (ho : off = ![k.val % 16, 1, 0]) (v : S1x1024x1.Idx → Elt F .f32)
    (hv : ∀ r : Fin 1024, v (ix3 0 r 0) = Y (yix k.val r.val r.isLt 0)) {inb} {h1 h2} {Q : PUnit → sProp 𝕄} :
    slotP c k.val (fillG k.val G) ⊢ iprop((slotP c k.val (fillG k.val (addA Y W B G)) -∗ Q ⟨⟩)
      -∗ WP c (Prog.lift (.store gbM ⟨(⟨off, S1x1024x128.size, ![1, 2, 1], inb⟩ : LoadRect S16x2048x128), spos_1_2_1⟩
        (k0_pay18 (k0_pay17 v W B) (fun x => fillG k.val G ((oddR k.val).toLoadRect.idx x))) Finset.univ h1 h2)) Q) := by
  subst ho
  exact writeSlot c k.val (fillG k.val G) _ (r := oddR k.val) (oddR_sub k.val) (add_step k.val Y W B G v hv _ fun _ => rfl)

/-- The encoding added, and the first three rows taken out. -/
theorem part18 (v : S1x1024x1.Idx → Elt F .f32) (hv : ∀ r : Fin 1024, v (ix3 0 r 0) = Y (yix k.val r.val r.isLt 0))
    {a0 a1 a2 a3 a4 a5 a6 a7 a8} {Q : (Σ' (v231 : Elt F .i32) (_ : k0_chk4 k v231) (_ : BitVec 32), BitVec 32) → sProp 𝕄} :
    iprop(slotP c k.val (fillG k.val G) ∗ tabs c O E W B)
      ⊢ iprop((rowsAt c k O E W B Y G 3 -∗ Q ⟨O (col 3), chk1 k _, Scalar.subi (O (col 3)) (baseW k), 0#32⟩)
        -∗ WP c (k0_part18 (F := F) oM a0 fM a1 yM a2 wM a3 bM a4 gM a5 rM a6 gbM a7 ybM a8 cc0_scratch2 cc0_scratch3 cc0_scratch4
            k (slotW k) (baseW k) (k0_pay17 v W B)) Q) := by
  rw [k0_part18_eq_skeleton]
  unfold k0_part18_skel
  simp only [wp_bind]
  have ho : k0_off13 k = ![k.val % 16, 1, 0] := off13_eq k
  iintro ⟨HS, HT⟩ Hk
  iapply (odd_read c k G ho) $$ HS
  iintro HS
  iapply (odd_read c k G ho) $$ HS
  iintro HS
  iapply (odd_write c k W B Y G ho v hv) $$ HS
  iintro HS
  iapply (row_read c k O E W B Y G 0 rfl) $$ [HS HT]
  · unfold rowsAt
    isplitl [HS]; · iexact HS
    iexact HT
  iintro HR
  iapply (passes c (chk1 k _))
  iapply (row_take c k O E W B Y G 0 (cond2_iff k _) (off14_eq k _) (fun h => rfl)) $$ HR
  iintro HR
  simp only [wp_bind]
  iapply (row_read c k O E W B Y G 1 rfl) $$ HR
  iintro HR
  iapply (passes c (chk1 k _))
  iapply (row_take c k O E W B Y G 1 (cond2_iff k _) (off14_eq k _) (fun h => rfl)) $$ HR
  iintro HR
  simp only [wp_bind]
  iapply (row_read c k O E W B Y G 2 rfl) $$ HR
  iintro HR
  iapply (passes c (chk1 k _))
  iapply (row_take c k O E W B Y G 2 (cond2_iff k _) (off14_eq k _) (fun h => rfl)) $$ HR
  iintro HR
  simp only [wp_bind]
  iapply (row_read c k O E W B Y G 3 rfl) $$ HR
  iintro HR
  iapply (passes c (chk1 k _))
  simp only [wp_pure]
  imodintro
  iapply Hk
  iexact HR

/-- The next four. -/
theorem part19
    {a0 a1 a2 a3 a4 a5 a6 a7 a8} {Q : (Σ' (v259 : Elt F .i32) (_ : k0_chk8 k v259) (_ : BitVec 32), BitVec 1) → sProp 𝕄} :
    rowsAt c k O E W B Y G 3
      ⊢ iprop((∀ x, rowsAt c k O E W B Y G 7 -∗ Q ⟨O (col 7), chk1 k _, Scalar.subi (O (col 7)) (baseW k), x⟩)
        -∗ WP c (k0_part19 (F := F) oM a0 fM a1 yM a2 wM a3 bM a4 gM a5 rM a6 gbM a7 ybM a8 cc0_scratch2 cc0_scratch3 cc0_scratch4
            k (slotW k) (baseW k) (O (col 3)) (chk1 k _) (Scalar.subi (O (col 3)) (baseW k)) 0#32) Q) := by
  rw [k0_part19_eq_skeleton]
  unfold k0_part19_skel
  iintro HR Hk
  iapply (row_take c k O E W B Y G 3 (cond2_iff k _) (off14_eq k _) (fun h => rfl)) $$ HR
  iintro HR
  simp only [wp_bind]
  iapply (row_read c k O E W B Y G 4 rfl) $$ HR
  iintro HR
  iapply (passes c (chk1 k _))
  iapply (row_take c k O E W B Y G 4 (cond2_iff k _) (off14_eq k _) (fun h => rfl)) $$ HR
  iintro HR
  simp only [wp_bind]
  iapply (row_read c k O E W B Y G 5 rfl) $$ HR
  iintro HR
  iapply (passes c (chk1 k _))
  iapply (row_take c k O E W B Y G 5 (cond2_iff k _) (off14_eq k _) (fun h => rfl)) $$ HR
  iintro HR
  simp only [wp_bind]
  iapply (row_read c k O E W B Y G 6 rfl) $$ HR
  iintro HR
  iapply (passes c (chk1 k _))
  iapply (row_take c k O E W B Y G 6 (cond2_iff k _) (off14_eq k _) (fun h => rfl)) $$ HR
  iintro HR
  simp only [wp_bind]
  iapply (row_read c k O E W B Y G 7 rfl) $$ HR
  iintro HR
  iapply (passes c (chk1 k _))
  simp only [wp_pure]
  imodintro
  iapply Hk
  iexact HR

/-- The next five. -/
theorem part20 (x : BitVec 1)
    {a0 a1 a2 a3 a4 a5 a6 a7 a8} {Q : PUnit → sProp 𝕄} :
    rowsAt c k O E W B Y G 7
      ⊢ iprop((rowsAt c k O E W B Y G 12 -∗ Q ⟨⟩)
        -∗ WP c (k0_part20 (F := F) oM a0 fM a1 yM a2 wM a3 bM a4 gM a5 rM a6 gbM a7 ybM a8 cc0_scratch2 cc0_scratch3 cc0_scratch4
            k (slotW k) (baseW k) (O (col 7)) (chk1 k _) (Scalar.subi (O (col 7)) (baseW k)) x) Q) := by
  rw [k0_part20_eq_skeleton]
  unfold k0_part20_skel
  iintro HR Hk
  iapply (row_take c k O E W B Y G 7 (cond2_iff k _) (off14_eq k _) (fun h => rfl)) $$ HR
  iintro HR
  simp only [wp_bind]
  iapply (row_read c k O E W B Y G 8 rfl) $$ HR
  iintro HR
  iapply (passes c (chk1 k _))
  iapply (row_take c k O E W B Y G 8 (cond2_iff k _) (off14_eq k _) (fun h => rfl)) $$ HR
  iintro HR
  simp only [wp_bind]
  iapply (row_read c k O E W B Y G 9 rfl) $$ HR
  iintro HR
  iapply (passes c (chk1 k _))
  iapply (row_take c k O E W B Y G 9 (cond2_iff k _) (off14_eq k _) (fun h => rfl)) $$ HR
  iintro HR
  simp only [wp_bind]
  iapply (row_read c k O E W B Y G 10 rfl) $$ HR
  iintro HR
  iapply (passes c (chk1 k _))
  iapply (row_take c k O E W B Y G 10 (cond2_iff k _) (off14_eq k _) (fun h => rfl)) $$ HR
  iintro HR
  simp only [wp_bind]
  iapply (row_read c k O E W B Y G 11 rfl) $$ HR
  iintro HR
  iapply (passes c (chk1 k _))
  iapply (row_take c k O E W B Y G 11 (cond2_iff k _) (off14_eq k _) (fun h => rfl)) $$ HR
  iintro HR
  simp only [wp_pure]
  imodintro
  iapply Hk
  iexact HR

/-- The last four. -/
theorem part21 (x : BitVec 32)
    {a0 a1 a2 a3 a4 a5 a6 a7 a8} {Q : PUnit → sProp 𝕄} :
    rowsAt c k O E W B Y G 12
      ⊢ iprop((rowsAt c k O E W B Y G 16 -∗ Q ⟨⟩)
        -∗ WP c (k0_part21 (F := F) oM a0 fM a1 yM a2 wM a3 bM a4 gM a5 rM a6 gbM a7 ybM a8 cc0_scratch2 cc0_scratch3 cc0_scratch4
            k x (slotW k) (baseW k)) Q) := by
  rw [k0_part21_eq_skeleton]
  unfold k0_part21_skel
  iintro HR Hk
  simp only [wp_bind]
  iapply (row_read c k O E W B Y G 12 rfl) $$ HR
  iintro HR
  iapply (passes c (chk1 k _))
  iapply (row_take c k O E W B Y G 12 (cond2_iff k _) (off14_eq k _) (fun h => rfl)) $$ HR
  iintro HR
  simp only [wp_bind]
  iapply (row_read c k O E W B Y G 13 rfl) $$ HR
  iintro HR
  iapply (passes c (chk1 k _))
  iapply (row_take c k O E W B Y G 13 (cond2_iff k _) (off14_eq k _) (fun h => rfl)) $$ HR
  iintro HR
  simp only [wp_bind]
  iapply (row_read c k O E W B Y G 14 rfl) $$ HR
  iintro HR
  iapply (passes c (chk1 k _))
  iapply (row_take c k O E W B Y G 14 (cond2_iff k _) (off14_eq k _) (fun h => rfl)) $$ HR
  iintro HR
  simp only [wp_bind]
  iapply (row_read c k O E W B Y G 15 rfl) $$ HR
  iintro HR
  iapply (passes c (chk1 k _))
  iapply (row_take c k O E W B Y G 15 (cond2_iff k _) (off14_eq k _) (fun h => rfl)) $$ HR
  iintro HR
  simp only [wp_pure]
  imodintro
  iapply Hk
  iexact HR

end Cert.Proof.Ring

end
-- ==== Proof.Trip.lean ====
/-
  One trip of the ring, and what holds between trips. Before trip `k` the tickets `k … k + 7` are out: each has its two
  input chunks on the way (past the last chunk, its semaphores and slots free) and, from the eighth on, the result chunk
  eight tickets back on its way out. A trip takes ticket `k` out and puts ticket `k + 8` in.
-/
module

public import proofs.«01_k».proof.Proof.Rows
public import Idealize.SL.BI.BigOpNat

@[expose] public section

noncomputable section

namespace Cert.Proof.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

/-! ## What the kernel computes is a canonical name -/

theorem is_rslot {p : ℕ} {off : Fin 3 → ℕ} (h : off = ![p % 16, 0, 0]) {inb} :
    (gbM.slice (Rect.unit (s := S16x2048x128) off S1x2048x128.size inb) (fun _ => rfl)).squeeze S2048x128 squeezes_S1x2048x128_S2048x128 = rslot p := by
  subst h; rfl
theorem is_yslot {p : ℕ} {off : Fin 3 → ℕ} (h : off = ![p % 16, 0, 0]) {inb} :
    (ybM.slice (Rect.unit (s := S16x1024x1) off S1x1024x1.size inb) (fun _ => rfl)).squeeze S1024x1 squeezes_S1x1024x1_S1024x1 = yslot p := by
  subst h; rfl
theorem is_gch {p : ℕ} {off : Fin 2 → ℕ} (hp : p < 128) (h : off = ![2048 * p, 0]) {inb} :
    gM.slice (Rect.unit (s := S262144x128) off S2048x128.size inb) (fun _ => rfl) = gch p := by
  rw [← Nat.mod_eq_of_lt hp] at h; subst h
  rfl
theorem is_rch {p : ℕ} {off : Fin 2 → ℕ} (hp : p < 128) (h : off = ![2048 * p, 0]) {inb} :
    rM.slice (Rect.unit (s := S262144x128) off S2048x128.size inb) (fun _ => rfl) = rch p := by
  rw [← Nat.mod_eq_of_lt hp] at h; subst h
  rfl
theorem is_ych {p : ℕ} {off : Fin 2 → ℕ} (hp : p < 128) (h : off = ![1024 * p, 0]) {inb} :
    yM.slice (Rect.unit (s := S131072x1) off S1024x1.size inb) (fun _ => rfl) = ych p := by
  rw [← Nat.mod_eq_of_lt hp] at h; subst h
  rfl
theorem is_gsem {p : ℕ} {off : Fin 1 → ℕ} (h : off = ![p % 8]) {inb} :
    ((cc0_scratch2.slice (Rect.unit (s := S8) off S1.size inb)).squeeze S_ squeezes_S1_S_).sem = gsem p := by
  subst h; rfl
theorem is_ysem {p : ℕ} {off : Fin 1 → ℕ} (h : off = ![p % 8]) {inb} :
    ((cc0_scratch3.slice (Rect.unit (s := S8) off S1.size inb)).squeeze S_ squeezes_S1_S_).sem = ysem p := by
  subst h; rfl
theorem is_osem {p : ℕ} {off : Fin 1 → ℕ} (h : off = ![p % 8]) {inb} :
    ((cc0_scratch4.slice (Rect.unit (s := S8) off S1.size inb)).squeeze S_ squeezes_S1_S_).sem = osem p := by
  subst h; rfl

variable (c : Dev nD)

theorem slotP_mod {p p' : ℕ} (h : p % 16 = p' % 16) (f : S16x2048x128.Idx → Elt F .f32) : slotP c p f = slotP c p' f := by
  unfold slotP; rw [slotSet_mod h]
theorem yslotP_mod {p p' : ℕ} (h : p % 16 = p' % 16) (f : S16x1024x1.Idx → Elt F .f32) : yslotP c p f = yslotP c p' f := by
  unfold yslotP; rw [yslotSet_mod h]

/-- A slot at some contents; -/
def anyS (p : ℕ) : sProp 𝕄 := iprop(∃ f, slotP c p f)
/-- of the `y` ring. -/
def anyY (p : ℕ) : sProp 𝕄 := iprop(∃ f, yslotP c p f)

theorem anyS_mod {p p' : ℕ} (h : p % 16 = p' % 16) : anyS (F := F) c p = anyS c p' := by
  unfold anyS; congr 1; funext f; exact slotP_mod c h f
theorem anyY_mod {p p' : ℕ} (h : p % 16 = p' % 16) : anyY (F := F) c p = anyY c p' := by
  unfold anyY; congr 1; funext f; exact yslotP_mod c h f

/-! ## Between trips -/

variable (O : S1x16.Idx → BitVec 32) (E : S1x16.Idx → Elt F .f32) (W B : S1x128.Idx → Elt F .f32)
  (Y : S131072x1.Idx → Elt F .f32) (G R₀ : S262144x128.Idx → Elt F .f32)

/-- The result: the encoding added to the odd rows, the sixteen rows taken out. -/
def resA : S262144x128.Idx → Elt F .f32 := fixN O E W B (addA Y W B G) 16

/-- The input side of ticket `p`: its chunks on the way, or nothing left to fetch. -/
def inT (p : ℕ) : sProp 𝕄 :=
  if p < 128 then iprop(inFlightG c G p ∗ inFlightY c Y p)
  else iprop(zeroP c (gsem p) ∗ zeroP c (ysem p) ∗ anyS c p ∗ anyY c p)

/-- The output side of ticket `p`: the chunk eight back on its way, or none issued yet. -/
def outT (R : S262144x128.Idx → Elt F .f32) (p : ℕ) : sProp 𝕄 :=
  if 8 ≤ p then outFlight c R (p - 8) else iprop(zeroP c (osem p) ∗ anyS c (p + 8))

/-- Ticket `p`. -/
def ticket (R : S262144x128.Idx → Elt F .f32) (p : ℕ) : sProp 𝕄 := iprop(inT c Y G p ∗ outT c R p ∗ anyY c (p + 8))

/-- The chunks of the arguments that are not on the way before trip `k`. -/
def home (k : ℕ) : Finset ℕ := (Finset.range 128).filter fun p => p < k ∨ k + 8 ≤ p

/-- One chunk of each of the two arguments. -/
def argP (p : ℕ) : sProp 𝕄 := iprop(gchP c G p ∗ ychP c Y p)

/-- What holds before trip `k`. -/
def ring (k : ℕ) : sProp 𝕄 :=
  iprop(bigSep (Finset.Ico k (k + 8)) (ticket c Y G (resA O E W B Y G)) ∗ bigSep (home k) (argP c Y G)
    ∗ bigSep (Finset.range (k - 8)) (rchP c (resA O E W B Y G)) ∗ bigSep (Finset.Ico k 128) (rchP c R₀)
    ∗ tabs c O E W B ∗ owesP c)

theorem take_one {s : Finset ℕ} {i : ℕ} (h : i ∈ s) (Φ : ℕ → sProp 𝕄) : bigSep s Φ = iprop(Φ i ∗ bigSep (s.erase i) Φ) := BI.bigSep_erase h
theorem take_bot {a b : ℕ} (h : a < b) (Φ : ℕ → sProp 𝕄) : bigSep (Finset.Ico a b) Φ = iprop(Φ a ∗ bigSep (Finset.Ico (a + 1) b) Φ) :=
  BI.bigSep_Ico_succ_bot h Φ
theorem take_top {a b : ℕ} (h : a ≤ b) (Φ : ℕ → sProp 𝕄) : bigSep (Finset.Ico a (b + 1)) Φ = iprop(Φ b ∗ bigSep (Finset.Ico a b) Φ) := by
  rw [take_one (i := b) (Finset.mem_Ico.2 ⟨h, by omega⟩)]
  congr 2; ext p; simp only [Finset.mem_erase, Finset.mem_Ico]; omega
theorem take_range (n : ℕ) (Φ : ℕ → sProp 𝕄) : bigSep (Finset.range (n + 1)) Φ = iprop(Φ n ∗ bigSep (Finset.range n) Φ) := by
  rw [take_one (i := n) (Finset.mem_range.2 (by omega))]
  congr 2; ext p; simp only [Finset.mem_erase, Finset.mem_range]; omega

theorem mem_home {k p : ℕ} : p ∈ home k ↔ p < 128 ∧ (p < k ∨ k + 8 ≤ p) := by simp [home]

/-- Between two trips a chunk comes home, and the one eight on, if there is one, is taken. -/
theorem home_take (k : ℕ) (hk : k + 8 < 128) :
    (iprop(bigSep (home k) (argP c Y G) ∗ argP c Y G k) : sProp 𝕄) ⊢ iprop(argP c Y G (k + 8) ∗ bigSep (home (k + 1)) (argP c Y G)) := by
  have h1 : k + 8 ∈ home k := mem_home.2 ⟨hk, .inr le_rfl⟩
  have h2 : k ∈ home (k + 1) := mem_home.2 ⟨by omega, .inl (by omega)⟩
  have h3 : (home k).erase (k + 8) = (home (k + 1)).erase k := by
    ext p; simp only [Finset.mem_erase, mem_home]; omega
  rw [take_one h1, take_one h2, h3]
  iintro ⟨⟨H8, HR⟩, Hk⟩
  isplitl [H8]; · iexact H8
  isplitl [Hk]; · iexact Hk
  iexact HR

theorem home_last (k : ℕ) (hk : k < 128) (hk' : ¬ k + 8 < 128) :
    (iprop(bigSep (home k) (argP c Y G) ∗ argP c Y G k) : sProp 𝕄) ⊢ bigSep (home (k + 1)) (argP c Y G) := by
  have h2 : k ∈ home (k + 1) := mem_home.2 ⟨by omega, .inl (by omega)⟩
  have h3 : home k = (home (k + 1)).erase k := by
    ext p; simp only [Finset.mem_erase, mem_home]; omega
  rw [take_one h2, h3]
  iintro ⟨HR, Hk⟩
  isplitl [Hk]; · iexact Hk
  iexact HR

/-! ## The parts of a trip -/

/-- The wait for the chunk eight back, from the eighth trip on: either way the slot of ticket `k + 8` and the output
    semaphore are free afterwards, and one more chunk of the result is done. -/
theorem wait_out {α : Type} (k : Fin k0_t1_loop.trips) (R : S262144x128.Idx → Elt F .f32) {C : Prop} [hdec : Decidable C] (hC : C ↔ 8 ≤ k.val)
    {J : Prog (TpuEff nD τ sig (Elt F) Λ₀ .tc) α} {src : C → Memref sig .tc .vmem S2048x128 .f32} {dst : C → Memref sig .tc .hbm S2048x128 .f32} {sm : C → DmaSem sig}
    {p : C → Prog (TpuEff nD τ sig (Elt F) Λ₀ .tc) α} (hp : ∀ h, ∃ h1 h2, p h = (Prog.lift (.waitDma2 (sm h) (src h) (dst h) h1 h2) >>= fun _ => J))
    (hd : ∀ h, dst h = rch (k.val - 8)) (hm : ∀ h, sm h = osem (k.val - 8)) {Q : α → sProp 𝕄} :
    iprop(outT c R k.val ∗ owesP c ∗ bigSep (Finset.range (k.val - 8)) (rchP c R))
      ⊢ iprop((zeroP c (osem k.val) ∗ anyS c (k.val + 8) ∗ owesP c ∗ bigSep (Finset.range (k.val + 1 - 8)) (rchP c R) -∗ WP c J Q)
        -∗ WP c (dite C p (fun _ => J)) Q) := by
  by_cases h : C
  · have h8 := hC.mp h
    obtain ⟨_, _, e⟩ := hp h
    rw [dif_pos h, e]
    simp only [wp_bind]
    unfold outT
    rw [if_pos h8, show k.val + 1 - 8 = k.val - 8 + 1 by omega, take_range, osem_mod (p := k.val) (p' := k.val - 8) (by omega),
      anyS_mod c (p := k.val + 8) (p' := k.val - 8) (by omega)]
    iintro ⟨HF, HW, HD⟩ Hk
    iapply (waitR c R (k.val - 8) (hd h) (hm h)) $$ [HF HW]
    · isplitl [HF]; · iexact HF
      iexact HW
    iintro ⟨⟨HR, HS⟩, Hv, HW⟩
    iapply Hk
    isplitl [Hv]; · iexact Hv
    isplitl [HS]
    · unfold anyS; iexists _; iexact HS
    isplitl [HW]; · iexact HW
    isplitl [HR]; · iexact HR
    iexact HD
  · have h8 : ¬ 8 ≤ k.val := fun h' => h (hC.mpr h')
    rw [dif_neg h]
    unfold outT
    rw [if_neg h8, show k.val + 1 - 8 = k.val - 8 by omega]
    iintro ⟨⟨Hv, HS⟩, HW, HD⟩ Hk
    iapply Hk
    isplitl [Hv]; · iexact Hv
    isplitl [HS]; · iexact HS
    isplitl [HW]; · iexact HW
    iexact HD

/-- The fetch of the chunks eight on, if there are any. -/
theorem issue_in {α : Type} (k : Fin k0_t1_loop.trips) {C : Prop} [hdec : Decidable C] (hC : C ↔ k.val + 8 < 128)
    {J : Prog (TpuEff nD τ sig (Elt F) Λ₀ .tc) α}
    {src : C → Memref sig .tc .hbm S2048x128 .f32} {dst : C → Memref sig .tc .vmem S2048x128 .f32} {sm : C → DmaSem sig}
    {srcy : C → Memref sig .tc .hbm S1024x1 .f32} {dsty : C → Memref sig .tc .vmem S1024x1 .f32} {smy : C → DmaSem sig}
    {p : C → Prog (TpuEff nD τ sig (Elt F) Λ₀ .tc) α}
    (hp : ∀ h, ∃ h1 h2 h3 h4 h5 h6, p h = (Prog.lift (.enqueueDma (src h) (.here (dst h)) (.dma (sm h)) h1 h2 h3) >>= fun _ =>
      Prog.lift (.enqueueDma (srcy h) (.here (dsty h)) (.dma (smy h)) h4 h5 h6) >>= fun _ => J))
    (hs : ∀ h, src h = gch (k.val + 8)) (hd : ∀ h, dst h = rslot (k.val + 8)) (hm : ∀ h, sm h = gsem (k.val + 8))
    (hsy : ∀ h, srcy h = ych (k.val + 8)) (hdy : ∀ h, dsty h = yslot (k.val + 8)) (hmy : ∀ h, smy h = ysem (k.val + 8)) {Q : α → sProp 𝕄} :
    iprop(bigSep (home k.val) (argP c Y G) ∗ argP c Y G k.val ∗ zeroP c (gsem k.val) ∗ zeroP c (ysem k.val) ∗ anyS c (k.val + 8) ∗ anyY c (k.val + 8))
      ⊢ iprop((inT c Y G (k.val + 8) ∗ bigSep (home (k.val + 1)) (argP c Y G) -∗ WP c J Q)
        -∗ WP c (dite C p (fun _ => J)) Q) := by
  rw [gsem_mod (p := k.val) (p' := k.val + 8) (by omega), ysem_mod (p := k.val) (p' := k.val + 8) (by omega)]
  by_cases h : C
  · have h8 := hC.mp h
    obtain ⟨_, _, _, _, _, _, e⟩ := hp h
    rw [dif_pos h, e]
    simp only [wp_bind]
    unfold inT
    rw [if_pos h8]
    unfold anyS anyY
    iintro ⟨HH, HA, Hg, Hy, ⟨%fs, HS⟩, ⟨%fy, HY⟩⟩ Hk
    ihave HT := (home_take c Y G k.val h8) $$ [HH HA]
    · isplitl [HH]; · iexact HH
      iexact HA
    icases HT with ⟨HA, HH⟩
    unfold argP
    icases HA with ⟨HG, HC⟩
    iapply (issueG c G (k.val + 8) fs (hs h) (hd h) (hm h)) $$ [HS HG Hg]
    · isplitl [HS]; · iexact HS
      isplitl [HG]; · iexact HG
      iexact Hg
    iintro HFg
    iapply (issueY c Y (k.val + 8) fy (hsy h) (hdy h) (hmy h)) $$ [HY HC Hy]
    · isplitl [HY]; · iexact HY
      isplitl [HC]; · iexact HC
      iexact Hy
    iintro HFy
    iapply Hk
    isplitl [HFg HFy]
    · isplitl [HFg]; · iexact HFg
      iexact HFy
    iexact HH
  · have h8 : ¬ k.val + 8 < 128 := fun h' => h (hC.mpr h')
    rw [dif_neg h]
    unfold inT
    rw [if_neg h8]
    iintro ⟨HH, HA, Hg, Hy, HS, HY⟩ Hk
    ihave HT := (home_last c Y G k.val (trip_lt k) h8) $$ [HH HA]
    · isplitl [HH]; · iexact HH
      iexact HA
    iapply Hk
    isplitr [HT]
    · isplitl [Hg]; · iexact Hg
      isplitl [Hy]; · iexact Hy
      isplitl [HS]; · iexact HS
      iexact HY
    iexact HT

end Cert.Proof.Ring

end
-- ==== Proof.Body.lean ====
/-
  The kernel's body: the prologue issues the first eight tickets, the loop runs the trips, the epilogue waits for the last
  eight chunks of the result.
-/
module

public import proofs.«01_k».proof.Proof.Trip

@[expose] public section

noncomputable section

namespace Cert.Proof.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (O : S1x16.Idx → BitVec 32) (E : S1x16.Idx → Elt F .f32) (W B : S1x128.Idx → Elt F .f32)
  (Y : S131072x1.Idx → Elt F .f32) (G R₀ : S262144x128.Idx → Elt F .f32)

theorem yread_sub (p : ℕ) {off : Fin 3 → ℕ} (h : off = ![p % 16, 0, 0]) {inb} :
    ybM.view.setOn (Rect.unit (s := S16x1024x1) off S1x1024x1.size inb).set ⊆ yslotSet p := by
  subst h
  intro i hi
  obtain ⟨j, hj, rfl⟩ := Finset.mem_map.mp hi
  obtain ⟨x, rfl⟩ := LoadRect.exists_idx_of_mem _ hj
  rw [mem_yslotSet]
  show p % 16 + 1 * (x 0).val = p % 16
  have : (x 0).val < 1 := (x 0).isLt
  omega

theorem yread_at (p : ℕ) {off : Fin 3 → ℕ} (h : off = ![p % 16, 0, 0]) {inb} (r : Fin 1024) :
    fillY p Y ((Rect.unit (s := S16x1024x1) off S1x1024x1.size inb).toLoadRect.idx (ix3 0 r 0)) = Y (yix p r.val r.isLt 0) := by
  subst h
  unfold fillY
  refine congrArg Y (idx2_ext ?_ rfl)
  show 1024 * (p % 128) + (0 + 1 * r.val) = 1024 * (p % 128) + r.val
  omega

/-- The trip's chunk of the column is read. -/
theorem readChunk (p : ℕ) {off : Fin 3 → ℕ} (h : off = ![p % 16, 0, 0]) {inb h1} {Q : (S1x1024x1.Idx → Elt F .f32) → sProp 𝕄} :
    yslotP c p (fillY p Y) ⊢ iprop((∀ v, ⌜∀ r : Fin 1024, v (ix3 0 r 0) = Y (yix p r.val r.isLt 0)⌝ -∗ yslotP c p (fillY p Y) -∗ Q v)
      -∗ WP c (Prog.lift (.load ybM (Rect.unit (s := S16x1024x1) off S1x1024x1.size inb).toLoadRect h1)) Q) := by
  obtain ⟨v, hv⟩ : ∃ v : S1x1024x1.Idx → Elt F .f32,
      v = fun x => fillY p Y ((Rect.unit (s := S16x1024x1) off S1x1024x1.size inb).toLoadRect.idx x) := ⟨_, rfl⟩
  have hat : ∀ r : Fin 1024, v (ix3 0 r 0) = Y (yix p r.val r.isLt 0) := fun r => by rw [hv]; exact yread_at Y p h r
  have key : yslotP c p (fillY p Y) ⊢ iprop((yslotP c p (fillY p Y) -∗ Q v)
      -∗ WP c (Prog.lift (.load ybM (Rect.unit (s := S16x1024x1) off S1x1024x1.size inb).toLoadRect h1)) Q) := by
    rw [hv]; exact readYslot c p (fillY p Y) (yread_sub p h)
  iintro H Hk
  iapply key $$ H
  iintro H
  ispecialize Hk $$ %v
  ispecialize Hk $$ %hat
  iapply Hk
  iexact H

/-- The waits of a trip, and the encoding of its chunk. -/
theorem part17 (k : Fin k0_t1_loop.trips) (R : S262144x128.Idx → Elt F .f32)
    {a0 a1 a2 a3 a4 a5 a6 a7 a8} {Q : (Σ' (_ : BitVec 32) (_ : BitVec 32) (_ : BitVec 32), FVec F S1024x128 .f32) → sProp 𝕄} :
    iprop(inFlightG c G k.val ∗ inFlightY c Y k.val ∗ outT c R k.val ∗ owesP c ∗ bigSep (Finset.range (k.val - 8)) (rchP c R) ∗ tabs c O E W B)
      ⊢ iprop((∀ v, ⌜∀ r : Fin 1024, v (ix3 0 r 0) = Y (yix k.val r.val r.isLt 0)⌝ -∗
          (slotP c k.val (fillG k.val G) ∗ anyY c k.val ∗ argP c Y G k.val ∗ zeroP c (gsem k.val) ∗ zeroP c (ysem k.val)
            ∗ zeroP c (osem k.val) ∗ anyS c (k.val + 8) ∗ owesP c ∗ bigSep (Finset.range (k.val + 1 - 8)) (rchP c R) ∗ tabs c O E W B)
          -∗ Q ⟨Scf.iv 0#32 1#32 k, Scalar.remsi (Scf.iv 0#32 1#32 k) 16#32, Scalar.muli (Scf.iv 0#32 1#32 k) 2048#32, k0_pay17 v W B⟩)
        -∗ WP c (k0_part17 (F := F) oM a0 fM a1 yM a2 wM a3 bM a4 gM a5 rM a6 gbM a7 ybM a8 cc0_scratch2 cc0_scratch3 cc0_scratch4
            0#32 1#32 k) Q) := by
  have hk := trip_lt k
  rw [k0_part17_eq_skeleton]
  unfold k0_part17_skel
  simp only [wp_bind]
  iintro ⟨HG, HY, HO, HW, HD, HT⟩ Hk
  iapply (waitG c G k.val (is_rslot (off5_eq k)) (is_gsem (off4_eq k))) $$ [HG HW]
  · isplitl [HG]; · iexact HG
    iexact HW
  iintro ⟨⟨HS, HGc⟩, Hg, HW⟩
  iapply (waitY c Y k.val (is_yslot (off7_eq k)) (is_ysem (off4_eq k))) $$ [HY HW]
  · isplitl [HY]; · iexact HY
    iexact HW
  iintro ⟨⟨HYs, HYc⟩, Hy, HW⟩
  iapply (wait_out c k R (cond1_iff k) (fun h => ⟨_, _, rfl⟩)
    (fun h => is_rch (by omega) (off10_eq k ((cond1_iff k).1 h))) (fun h => is_osem (off9_eq k ((cond1_iff k).1 h)))) $$ [HO HW HD]
  · isplitl [HO]; · iexact HO
    isplitl [HW]; · iexact HW
    iexact HD
  iintro ⟨Ho, HS8, HW, HD⟩
  simp only [wp_bind]
  iapply (readChunk c Y k.val (off12_eq k)) $$ HYs
  iintro %v
  iintro %hv
  iintro HYs
  iapply (readW c O E W B) $$ HT
  iintro HT
  iapply (readB c O E W B) $$ HT
  iintro HT
  simp only [wp_pure]
  imodintro
  ispecialize Hk $$ %v
  ispecialize Hk $$ %hv
  iapply Hk
  isplitl [HS]; · iexact HS
  isplitl [HYs]
  · unfold anyY; iexists _; iexact HYs
  isplitl [HGc HYc]
  · unfold argP
    isplitl [HGc]; · iexact HGc
    iexact HYc
  isplitl [Hg]; · iexact Hg
  isplitl [Hy]; · iexact Hy
  isplitl [Ho]; · iexact Ho
  isplitl [HS8]; · iexact HS8
  isplitl [HW]; · iexact HW
  isplitl [HD]; · iexact HD
  iexact HT

/-- ONE TRIP. -/
theorem trip (k : Fin k0_t1_loop.trips) {a0 a1 a2 a3 a4 a5 a6 a7 a8} (u : Unit) :
    ring c O E W B Y G R₀ k.val
      ⊢ WP c (k0_t1_body (F := F) oM a0 fM a1 yM a2 wM a3 bM a4 gM a5 rM a6 gbM a7 ybM a8 cc0_scratch2 cc0_scratch3 cc0_scratch4 k u)
          (fun _ => ring c O E W B Y G R₀ (k.val + 1)) := by
  have hk := trip_lt k
  unfold ring
  rw [take_bot (a := k.val) (b := k.val + 8) (by omega), show k.val + 1 + 8 = k.val + 8 + 1 by omega, take_top (a := k.val + 1) (b := k.val + 8) (by omega),
    take_bot (a := k.val) (b := 128) hk]
  unfold k0_t1_body
  simp only [wp_bind]
  unfold ticket
  rw [show inT c Y G k.val = iprop(inFlightG c G k.val ∗ inFlightY c Y k.val) from if_pos hk,
    show outT c (resA O E W B Y G) (k.val + 8) = outFlight c (resA O E W B Y G) k.val by unfold outT; rw [if_pos (by omega), Nat.add_sub_cancel]]
  iintro ⟨⟨⟨⟨HG, HY⟩, HO, HY8⟩, HTs⟩, HH, HD, ⟨HR, HRs⟩, HT, HW⟩
  iapply (part17 c O E W B Y G k (resA O E W B Y G)) $$ [HG HY HO HW HD HT]
  · isplitl [HG]; · iexact HG
    isplitl [HY]; · iexact HY
    isplitl [HO]; · iexact HO
    isplitl [HW]; · iexact HW
    isplitl [HD]; · iexact HD
    iexact HT
  iintro %v
  iintro %hv
  iintro ⟨HS, HYk, HA, Hg, Hy, Ho, HS8, HW, HD, HT⟩
  iapply (part18 c k O E W B Y G v hv) $$ [HS HT]
  · isplitl [HS]; · iexact HS
    iexact HT
  iintro HX
  iapply (part19 c k O E W B Y G) $$ HX
  iintro %x
  iintro HX
  iapply (part20 c k O E W B Y G x) $$ HX
  iintro HX
  iapply (part21 c k O E W B Y G _) $$ HX
  iintro HX
  unfold rowsAt
  icases HX with ⟨HS, HT⟩
  iapply (issueR c (resA O E W B Y G) k.val R₀ (is_rslot (off32_eq k)) (is_rch hk (off31_eq k)) (is_osem (off30_eq k))) $$ [HS HR Ho]
  · isplitl [HS]; · unfold resA; iexact HS
    isplitl [HR]; · iexact HR
    iexact Ho
  iintro HF
  iapply (issue_in c Y G k (cond18_iff k) (fun h => ⟨_, _, _, _, _, _, rfl⟩)
    (fun h => is_gch ((cond18_iff k).1 h) (off35_eq k)) (fun h => is_rslot (off34_eq k)) (fun h => is_gsem (off33_eq k))
    (fun h => is_ych ((cond18_iff k).1 h) (off37_eq k)) (fun h => is_yslot (off36_eq k)) (fun h => is_ysem (off33_eq k))) $$ [HH HA Hg Hy HS8 HY8]
  · isplitl [HH]; · iexact HH
    isplitl [HA]; · iexact HA
    isplitl [Hg]; · iexact Hg
    isplitl [Hy]; · iexact Hy
    isplitl [HS8]; · iexact HS8
    iexact HY8
  iintro ⟨HI, HH⟩
  simp only [wp_pure]
  imodintro
  isplitl [HI HF HYk HTs]
  · isplitr [HTs]
    · isplitl [HI]; · iexact HI
      isplitl [HF]; · iexact HF
      irw [anyY_mod (F := F) c (p := k.val + 8 + 8) (p' := k.val) (by omega)]
      iexact HYk
    iexact HTs
  isplitl [HH]; · iexact HH
  isplitl [HD]; · iexact HD
  isplitl [HRs]; · iexact HRs
  isplitl [HT]; · iexact HT
  iexact HW

end Cert.Proof.Ring

end
-- ==== Proof.Pieces.lean ====
/-
  The buffers held whole, and held piece by piece: slots of the two rings, chunks of the arguments and of the result.
-/
module

public import proofs.«01_k».proof.Proof.Trip

@[expose] public section

noncomputable section

namespace Cert.Proof.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD)

theorem chunk_disj : ∀ p ∈ Finset.range 128, ∀ p' ∈ Finset.range 128, p ≠ p' → Disjoint (chunkSet p) (chunkSet p') := by
  intro p hp p' hp' h
  rw [Finset.mem_range] at hp hp'
  refine Finset.disjoint_left.2 fun x hx hx' => h ?_
  rw [mem_chunkSet] at hx hx'; omega

theorem chunk_cover : (Finset.range 128).biUnion chunkSet = Finset.univ := by
  refine Finset.eq_univ_iff_forall.2 fun x => Finset.mem_biUnion.2 ⟨(x 0).val / 2048, ?_, ?_⟩
  · have : (x 0).val < 262144 := (x 0).isLt
    rw [Finset.mem_range]; omega
  · have : (x 0).val < 262144 := (x 0).isLt
    rw [mem_chunkSet]; omega

theorem ychunk_disj : ∀ p ∈ Finset.range 128, ∀ p' ∈ Finset.range 128, p ≠ p' → Disjoint (ychunkSet p) (ychunkSet p') := by
  intro p hp p' hp' h
  rw [Finset.mem_range] at hp hp'
  refine Finset.disjoint_left.2 fun x hx hx' => h ?_
  rw [mem_ychunkSet] at hx hx'; omega

theorem ychunk_cover : (Finset.range 128).biUnion ychunkSet = Finset.univ := by
  refine Finset.eq_univ_iff_forall.2 fun x => Finset.mem_biUnion.2 ⟨(x 0).val / 1024, ?_, ?_⟩
  · have : (x 0).val < 131072 := (x 0).isLt
    rw [Finset.mem_range]; omega
  · have : (x 0).val < 131072 := (x 0).isLt
    rw [mem_ychunkSet]; omega

theorem slot_disj : ∀ p ∈ Finset.range 16, ∀ p' ∈ Finset.range 16, p ≠ p' → Disjoint (slotSet p) (slotSet p') := by
  intro p hp p' hp' h
  rw [Finset.mem_range] at hp hp'
  refine Finset.disjoint_left.2 fun x hx hx' => h ?_
  rw [mem_slotSet] at hx hx'; omega

theorem slot_cover : (Finset.range 16).biUnion slotSet = Finset.univ := by
  refine Finset.eq_univ_iff_forall.2 fun x => Finset.mem_biUnion.2 ⟨(x 0).val, ?_, ?_⟩
  · exact Finset.mem_range.2 (x 0).isLt
  · have : (x 0).val < 16 := (x 0).isLt
    rw [mem_slotSet]; omega

theorem yslot_disj : ∀ p ∈ Finset.range 16, ∀ p' ∈ Finset.range 16, p ≠ p' → Disjoint (yslotSet p) (yslotSet p') := by
  intro p hp p' hp' h
  rw [Finset.mem_range] at hp hp'
  refine Finset.disjoint_left.2 fun x hx hx' => h ?_
  rw [mem_yslotSet] at hx hx'; omega

theorem yslot_cover : (Finset.range 16).biUnion yslotSet = Finset.univ := by
  refine Finset.eq_univ_iff_forall.2 fun x => Finset.mem_biUnion.2 ⟨(x 0).val, ?_, ?_⟩
  · exact Finset.mem_range.2 (x 0).isLt
  · have : (x 0).val < 16 := (x 0).isLt
    rw [mem_yslotSet]; omega

/-- The graph is its chunks; -/
theorem graph_pieces (G : S262144x128.Idx → Elt F .f32) :
    (gM.view.loc (c : Thread nD τ) ↦{fullShare} G : sProp 𝕄) = bigSep (Finset.range 128) (gchP c G) := by
  have e := pointsTo_biUnion (Ix := Unit) (Name := ℕ) (U := UU nD τ) (Lvl := ℕ) (ℓ := gM.view.loc (c : Thread nD τ)) (q := fullShare) (f := G)
    (Finset.range 128) chunkSet chunk_disj
  exact (congrArg (fun S => (gM.view.loc (c : Thread nD τ) ↦[S]{fullShare} G : sProp 𝕄)) chunk_cover.symm).trans e
/-- the column; -/
theorem column_pieces (Y : S131072x1.Idx → Elt F .f32) :
    (yM.view.loc (c : Thread nD τ) ↦{fullShare} Y : sProp 𝕄) = bigSep (Finset.range 128) (ychP c Y) := by
  have e := pointsTo_biUnion (Ix := Unit) (Name := ℕ) (U := UU nD τ) (Lvl := ℕ) (ℓ := yM.view.loc (c : Thread nD τ)) (q := fullShare) (f := Y)
    (Finset.range 128) ychunkSet ychunk_disj
  exact (congrArg (fun S => (yM.view.loc (c : Thread nD τ) ↦[S]{fullShare} Y : sProp 𝕄)) ychunk_cover.symm).trans e
/-- the result. -/
theorem result_pieces (R : S262144x128.Idx → Elt F .f32) :
    (rM.view.loc (c : Thread nD τ) ↦{fullShare} R : sProp 𝕄) = bigSep (Finset.range 128) (rchP c R) := by
  have e := pointsTo_biUnion (Ix := Unit) (Name := ℕ) (U := UU nD τ) (Lvl := ℕ) (ℓ := rM.view.loc (c : Thread nD τ)) (q := fullShare) (f := R)
    (Finset.range 128) chunkSet chunk_disj
  exact (congrArg (fun S => (rM.view.loc (c : Thread nD τ) ↦[S]{fullShare} R : sProp 𝕄)) chunk_cover.symm).trans e

theorem anyS_of (p : ℕ) (f : S16x2048x128.Idx → Elt F .f32) : slotP c p f ⊢ anyS c p := by
  unfold anyS; iintro H; iexists f; iexact H
theorem anyY_of (p : ℕ) (f : S16x1024x1.Idx → Elt F .f32) : yslotP c p f ⊢ anyY c p := by
  unfold anyY; iintro H; iexists f; iexact H

/-- The graph ring at some contents is its slots at some contents, and back. -/
theorem ring_split : (iprop(∃ f, gbM.view.loc (c : Thread nD τ) ↦{fullShare} f) : sProp 𝕄) ⊢ bigSep (Finset.range 16) (anyS c) := by
  iintro ⟨%f, H⟩
  have e : (gbM.view.loc (c : Thread nD τ) ↦{fullShare} f : sProp 𝕄) = bigSep (Finset.range 16) fun p => gbM.view.loc (c : Thread nD τ) ↦[slotSet p]{fullShare} f := by
    have e := pointsTo_biUnion (Ix := Unit) (Name := ℕ) (U := UU nD τ) (Lvl := ℕ) (ℓ := gbM.view.loc (c : Thread nD τ)) (q := fullShare) (f := f)
      (Finset.range 16) slotSet slot_disj
    exact (congrArg (fun S => (gbM.view.loc (c : Thread nD τ) ↦[S]{fullShare} f : sProp 𝕄)) slot_cover.symm).trans e
  have e' : (bigSep (Finset.range 16) fun p => gbM.view.loc (c : Thread nD τ) ↦[slotSet p]{fullShare} f : sProp 𝕄) ⊢ bigSep (Finset.range 16) (anyS c) := by
    refine BI.bigSep_mono fun p _ => ?_
    exact anyS_of c p f
  iapply e'
  iapply (entails_of_eq e) $$ H

theorem ring_join : (bigSep (Finset.range 16) (anyS c) : sProp 𝕄) ⊢ iprop(∃ f, gbM.view.loc (c : Thread nD τ) ↦{fullShare} f) := by
  have : Nonempty (Buf (Elt F) (gbM.view.loc (c : Thread nD τ))) := ⟨fun _ => Classical.ofNonempty⟩
  refine (Idealize.SL.BI.bigSep_exists_pi (Finset.range 16) (fun p (f : Buf (Elt F) (gbM.view.loc (c : Thread nD τ))) => (gbM.view.loc (c : Thread nD τ) ↦[slotSet p]{fullShare} f : sProp 𝕄))).trans ?_
  iintro ⟨%fs, H⟩
  iapply ((pointsTo_biUnion_join (Finset.range 16) slotSet fs (Classical.ofNonempty) slot_disj).trans (by
    rw [slot_cover]; iintro ⟨%g, -, H'⟩; iexists g; iexact H'))
  iexact H

/-- The `y` ring likewise. -/
theorem yring_split : (iprop(∃ f, ybM.view.loc (c : Thread nD τ) ↦{fullShare} f) : sProp 𝕄) ⊢ bigSep (Finset.range 16) (anyY c) := by
  iintro ⟨%f, H⟩
  have e : (ybM.view.loc (c : Thread nD τ) ↦{fullShare} f : sProp 𝕄) = bigSep (Finset.range 16) fun p => ybM.view.loc (c : Thread nD τ) ↦[yslotSet p]{fullShare} f := by
    have e := pointsTo_biUnion (Ix := Unit) (Name := ℕ) (U := UU nD τ) (Lvl := ℕ) (ℓ := ybM.view.loc (c : Thread nD τ)) (q := fullShare) (f := f)
      (Finset.range 16) yslotSet yslot_disj
    exact (congrArg (fun S => (ybM.view.loc (c : Thread nD τ) ↦[S]{fullShare} f : sProp 𝕄)) yslot_cover.symm).trans e
  have e' : (bigSep (Finset.range 16) fun p => ybM.view.loc (c : Thread nD τ) ↦[yslotSet p]{fullShare} f : sProp 𝕄) ⊢ bigSep (Finset.range 16) (anyY c) := by
    refine BI.bigSep_mono fun p _ => ?_
    exact anyY_of c p f
  iapply e'
  iapply (entails_of_eq e) $$ H

theorem yring_join : (bigSep (Finset.range 16) (anyY c) : sProp 𝕄) ⊢ iprop(∃ f, ybM.view.loc (c : Thread nD τ) ↦{fullShare} f) := by
  have : Nonempty (Buf (Elt F) (ybM.view.loc (c : Thread nD τ))) := ⟨fun _ => Classical.ofNonempty⟩
  refine (Idealize.SL.BI.bigSep_exists_pi (Finset.range 16) (fun p (f : Buf (Elt F) (ybM.view.loc (c : Thread nD τ))) => (ybM.view.loc (c : Thread nD τ) ↦[yslotSet p]{fullShare} f : sProp 𝕄))).trans ?_
  iintro ⟨%fs, H⟩
  iapply ((pointsTo_biUnion_join (Finset.range 16) yslotSet fs (Classical.ofNonempty) yslot_disj).trans (by
    rw [yslot_cover]; iintro ⟨%g, -, H'⟩; iexists g; iexact H'))
  iexact H

end Cert.Proof.Ring

end
-- ==== Proof.Whole.lean ====
/-
  The kernel's body from end to end: the prologue issues the first eight tickets, the loop runs the trips, the epilogue
  waits for the last eight chunks of the result.
-/
module

public import proofs.«01_k».proof.Proof.Body
public import proofs.«01_k».proof.Proof.Pieces

@[expose] public section

noncomputable section

namespace Cert.Proof.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem

variable {F : FTy → Type} [FloatOps F]
local notation "𝕄" => MT nD τ sig Unit (Elt F) ℕ (UU nD τ) ℕ

variable (c : Dev nD) (O : S1x16.Idx → BitVec 32) (E : S1x16.Idx → Elt F .f32) (W B : S1x128.Idx → Elt F .f32)
  (Y : S131072x1.Idx → Elt F .f32) (G R₀ : S262144x128.Idx → Elt F .f32)

/-! ## Runs of numbers -/

theorem runs_join {a b d : ℕ} (hab : a ≤ b) (hbd : b ≤ d) (Φ : ℕ → sProp 𝕄) :
    bigSep (Finset.Ico a d) Φ = iprop(bigSep (Finset.Ico a b) Φ ∗ bigSep (Finset.Ico b d) Φ) := by
  rw [← Finset.Ico_union_Ico_eq_Ico hab hbd]
  exact BI.bigSep_union (Finset.Ico_disjoint_Ico_consecutive a b d)

theorem run_shift (Φ : ℕ → sProp 𝕄) (a b k : ℕ) : bigSep (Finset.Ico a b) (fun p => Φ (p + k)) = bigSep (Finset.Ico (a + k) (b + k)) Φ := by
  rw [← Finset.map_add_right_Ico a b k, BI.bigSep_map]; rfl

theorem run_sep (s : Finset ℕ) (Φ Ψ : ℕ → sProp 𝕄) : bigSep s (fun p => iprop(Φ p ∗ Ψ p)) = iprop(bigSep s Φ ∗ bigSep s Ψ) :=
  BI.bigSep_sep s Φ Ψ

theorem run_congr {s : Finset ℕ} {Φ Ψ : ℕ → sProp 𝕄} (h : ∀ p ∈ s, Φ p = Ψ p) : bigSep s Φ = bigSep s Ψ := BI.bigSep_congr h

/-! ## The prologue -/

/-- The graph's first eight tickets with `n` issued; -/
def preG (n : ℕ) : sProp 𝕄 :=
  iprop(bigSep (Finset.Ico n 8) (fun p => iprop(anyS c p ∗ gchP c G p ∗ zeroP c (gsem p))) ∗ bigSep (Finset.Ico 0 n) (inFlightG c G))
/-- the column's. -/
def preY (n : ℕ) : sProp 𝕄 :=
  iprop(bigSep (Finset.Ico n 8) (fun p => iprop(anyY c p ∗ ychP c Y p ∗ zeroP c (ysem p))) ∗ bigSep (Finset.Ico 0 n) (inFlightY c Y))

theorem firstG (n : ℕ) (hn : n < 8) {src : Memref sig .tc .hbm S2048x128 .f32} {dst : Memref sig .tc .vmem S2048x128 .f32} {sm : DmaSem sig}
    (hs : src = gch n) (hd : dst = rslot n) (hm : sm = gsem n) {h1 h2 h3} {Q : PUnit → sProp 𝕄} :
    preG c G n ⊢ iprop((preG c G (n + 1) -∗ Q ⟨⟩) -∗ WP c (Prog.lift (.enqueueDma src (.here dst) (.dma sm) h1 h2 h3)) Q) := by
  unfold preG
  rw [take_bot hn, take_top (Nat.zero_le n)]
  unfold anyS
  iintro ⟨⟨⟨⟨%f, HS⟩, HG, Hv⟩, HR⟩, HF⟩ Hk
  iapply (issueG c G n f hs hd hm) $$ [HS HG Hv]
  · isplitl [HS]; · iexact HS
    isplitl [HG]; · iexact HG
    iexact Hv
  iintro H
  iapply Hk
  isplitl [HR]; · iexact HR
  isplitl [H]; · iexact H
  iexact HF

theorem firstY (n : ℕ) (hn : n < 8) {src : Memref sig .tc .hbm S1024x1 .f32} {dst : Memref sig .tc .vmem S1024x1 .f32} {sm : DmaSem sig}
    (hs : src = ych n) (hd : dst = yslot n) (hm : sm = ysem n) {h1 h2 h3} {Q : PUnit → sProp 𝕄} :
    preY c Y n ⊢ iprop((preY c Y (n + 1) -∗ Q ⟨⟩) -∗ WP c (Prog.lift (.enqueueDma src (.here dst) (.dma sm) h1 h2 h3)) Q) := by
  unfold preY
  rw [take_bot hn, take_top (Nat.zero_le n)]
  unfold anyY
  iintro ⟨⟨⟨⟨%f, HS⟩, HG, Hv⟩, HR⟩, HF⟩ Hk
  iapply (issueY c Y n f hs hd hm) $$ [HS HG Hv]
  · isplitl [HS]; · iexact HS
    isplitl [HG]; · iexact HG
    iexact Hv
  iintro H
  iapply Hk
  isplitl [HR]; · iexact HR
  isplitl [H]; · iexact H
  iexact HF

/-! ## The epilogue -/

/-- The last eight chunks of the result with those before `n` waited for. -/
def postR (R : S262144x128.Idx → Elt F .f32) (n : ℕ) : sProp 𝕄 :=
  iprop(bigSep (Finset.Ico n 128) (outFlight c R) ∗ bigSep (Finset.Ico 0 n) (rchP c R)
    ∗ bigSep (Finset.Ico 120 n) (fun p => iprop(anyS c p ∗ zeroP c (osem p))) ∗ owesP c)

theorem lastR (R : S262144x128.Idx → Elt F .f32) (n : ℕ) (hn : 120 ≤ n) (hn' : n < 128)
    {src : Memref sig .tc .vmem S2048x128 .f32} {dst : Memref sig .tc .hbm S2048x128 .f32} {sm : DmaSem sig}
    (hd : dst = rch n) (hm : sm = osem n) {h1 h2} {Q : PUnit → sProp 𝕄} :
    postR c R n ⊢ iprop((postR c R (n + 1) -∗ Q ⟨⟩) -∗ WP c (Prog.lift (.waitDma2 sm src dst h1 h2)) Q) := by
  unfold postR
  rw [take_bot hn', take_top (Nat.zero_le n), take_top hn]
  iintro ⟨⟨HF, HFs⟩, HR, HS, HW⟩ Hk
  iapply (waitR c R n hd hm) $$ [HF HW]
  · isplitl [HF]; · iexact HF
    iexact HW
  iintro ⟨⟨Hr, Hs⟩, Hv, HW⟩
  iapply Hk
  isplitl [HFs]; · iexact HFs
  isplitl [Hr HR]
  · isplitl [Hr]; · iexact Hr
    iexact HR
  isplitl [Hs Hv HS]
  · isplitr [HS]
    · isplitl [Hs]
      · iapply (anyS_of c n _) $$ Hs
      iexact Hv
    iexact HS
  iexact HW

/-! ## Entry and exit -/

/-- What the body is given and gives back: the tables, the arguments, the result at `R`, the rings, the semaphores at zero. -/
def held (R : S262144x128.Idx → Elt F .f32) : sProp 𝕄 :=
  iprop(tabs c O E W B ∗ (gM.view.loc (c : Thread nD τ) ↦{fullShare} G) ∗ (yM.view.loc (c : Thread nD τ) ↦{fullShare} Y)
    ∗ (rM.view.loc (c : Thread nD τ) ↦{fullShare} R)
    ∗ (∃ f, gbM.view.loc (c : Thread nD τ) ↦{fullShare} f) ∗ (∃ f, ybM.view.loc (c : Thread nD τ) ↦{fullShare} f)
    ∗ bigSep (Finset.Ico 0 8) (fun p => zeroP c (gsem p)) ∗ bigSep (Finset.Ico 0 8) (fun p => zeroP c (ysem p))
    ∗ bigSep (Finset.Ico 0 8) (fun p => zeroP c (osem p)) ∗ owesP c)

/-- What lies beside the first eight tickets' inputs at entry. -/
def beside : sProp 𝕄 :=
  iprop(bigSep (Finset.Ico 8 16) (anyS c) ∗ bigSep (Finset.Ico 8 16) (anyY c) ∗ bigSep (Finset.Ico 8 128) (argP c Y G)
    ∗ bigSep (Finset.Ico 0 128) (rchP c R₀) ∗ bigSep (Finset.Ico 0 8) (fun p => zeroP c (osem p)) ∗ tabs c O E W B ∗ owesP c)

theorem halvesS : bigSep (Finset.range 16) (anyS (F := F) c) = iprop(bigSep (Finset.Ico 0 8) (anyS c) ∗ bigSep (Finset.Ico 8 16) (anyS c)) := by
  rw [Finset.range_eq_Ico]; exact runs_join (by omega) (by omega) _
theorem halvesY : bigSep (Finset.range 16) (anyY (F := F) c) = iprop(bigSep (Finset.Ico 0 8) (anyY c) ∗ bigSep (Finset.Ico 8 16) (anyY c)) := by
  rw [Finset.range_eq_Ico]; exact runs_join (by omega) (by omega) _
theorem arg_sep (s : Finset ℕ) : bigSep s (argP c Y G) = iprop(bigSep s (gchP c G) ∗ bigSep s (ychP c Y)) := run_sep s _ _

theorem enter : held c O E W B Y G R₀ ⊢ iprop(preG c G 0 ∗ preY c Y 0 ∗ beside c O E W B Y G R₀) := by
  unfold held beside preG preY
  rw [graph_pieces, column_pieces, result_pieces]
  simp only [run_sep, Finset.range_eq_Ico, arg_sep, Finset.Ico_self, BI.bigSep_empty]
  rw [runs_join (a := 0) (b := 8) (d := 128) (by omega) (by omega) (gchP c G), runs_join (a := 0) (b := 8) (d := 128) (by omega) (by omega) (ychP c Y)]
  iintro ⟨HT, ⟨HG, HG'⟩, ⟨HY, HY'⟩, HR, HS, HYS, Hg, Hy, Ho, HW⟩
  ihave HS := ((ring_split (F := F) c).trans (entails_of_eq (halvesS c))) $$ HS
  ihave HYS := ((yring_split (F := F) c).trans (entails_of_eq (halvesY c))) $$ HYS
  icases HS with ⟨HS, HS'⟩
  icases HYS with ⟨HYS, HYS'⟩
  isplitl [HS HG Hg]
  · isplitl [HS HG Hg]
    · isplitl [HS]; · iexact HS
      isplitl [HG]; · iexact HG
      iexact Hg
    iempintro
  isplitl [HYS HY Hy]
  · isplitl [HYS HY Hy]
    · isplitl [HYS]; · iexact HYS
      isplitl [HY]; · iexact HY
      iexact Hy
    iempintro
  isplitl [HS']; · iexact HS'
  isplitl [HYS']; · iexact HYS'
  isplitl [HG' HY']
  · isplitl [HG']; · iexact HG'
    iexact HY'
  isplitl [HR]; · iexact HR
  isplitl [Ho]; · iexact Ho
  isplitl [HT]; · iexact HT
  iexact HW

/-- With every first ticket issued the loop's invariant holds before its first trip. -/
theorem ring_first : iprop(preG c G 8 ∗ preY c Y 8 ∗ beside c O E W B Y G R₀) ⊢ ring c O E W B Y G R₀ 0 := by
  have hT : bigSep (Finset.Ico 0 8) (ticket c Y G (resA O E W B Y G))
      = bigSep (Finset.Ico 0 8) (fun p => iprop((inFlightG c G p ∗ inFlightY c Y p) ∗ (zeroP c (osem p) ∗ anyS (F := F) c (p + 8)) ∗ anyY (F := F) c (p + 8))) :=
    run_congr fun p hp => by
      have := Finset.mem_Ico.1 hp
      unfold ticket inT outT
      rw [if_pos (by omega), if_neg (by omega)]
  have hH : home 0 = Finset.Ico 8 128 := by
    ext p; rw [mem_home, Finset.mem_Ico]; omega
  unfold ring preG preY beside
  rw [show (0 : ℕ) + 8 = 8 from rfl, hT, hH, show Finset.range (0 - 8) = ∅ from rfl]
  simp only [run_sep, Finset.Ico_self, BI.bigSep_empty]
  rw [run_shift (anyS (F := F) c) 0 8 8, run_shift (anyY (F := F) c) 0 8 8]
  iintro ⟨⟨_, HG⟩, ⟨_, HY⟩, HS', HYS', HA, HR, Ho, HT, HW⟩
  isplitl [HG HY Ho HS' HYS']
  · isplitl [HG HY]
    · isplitl [HG]; · iexact HG
      iexact HY
    isplitl [Ho HS']
    · isplitl [Ho]; · iexact Ho
      iexact HS'
    iexact HYS'
  isplitl [HA]; · iexact HA
  isplitl []; · iempintro
  isplitl [HR]; · iexact HR
  isplitl [HT]; · iexact HT
  iexact HW

/-- What lies beside the last eight chunks after the loop. -/
def after : sProp 𝕄 :=
  iprop(bigSep (Finset.Ico 0 8) (fun p => zeroP c (gsem p)) ∗ bigSep (Finset.Ico 0 8) (fun p => zeroP c (ysem p)) ∗ bigSep (Finset.Ico 0 8) (anyS c)
    ∗ bigSep (Finset.range 16) (anyY c) ∗ bigSep (Finset.range 128) (argP c Y G) ∗ tabs c O E W B)

theorem ring_last : ring c O E W B Y G R₀ 128 ⊢ iprop(postR c (resA O E W B Y G) 120 ∗ after c O E W B Y G) := by
  have hT : bigSep (Finset.Ico 128 136) (ticket c Y G (resA O E W B Y G))
      = bigSep (Finset.Ico 0 8) (fun p => iprop((zeroP c (gsem p) ∗ zeroP c (ysem p) ∗ anyS (F := F) c p ∗ anyY (F := F) c p)
          ∗ outFlight c (resA O E W B Y G) (p + 120) ∗ anyY (F := F) c (p + 8))) := by
    rw [← run_shift _ 0 8 128]
    refine run_congr fun p hp => ?_
    have := Finset.mem_Ico.1 hp
    unfold ticket inT outT
    rw [if_neg (by omega), if_pos (by omega), gsem_mod (p := p + 128) (p' := p) (by omega), ysem_mod (p := p + 128) (p' := p) (by omega),
      anyS_mod c (p := p + 128) (p' := p) (by omega), anyY_mod c (p := p + 128) (p' := p) (by omega),
      anyY_mod c (p := p + 128 + 8) (p' := p + 8) (by omega), show p + 128 - 8 = p + 120 by omega]
  have hH : home 128 = Finset.range 128 := by
    ext p; rw [mem_home, Finset.mem_range]; omega
  unfold ring postR after
  rw [show (128 : ℕ) + 8 = 136 from rfl, hT, hH, show Finset.range (128 - 8) = Finset.Ico 0 120 from Finset.range_eq_Ico 120, halvesY]
  simp only [run_sep, Finset.Ico_self, BI.bigSep_empty]
  rw [run_shift (outFlight c (resA O E W B Y G)) 0 8 120, run_shift (anyY (F := F) c) 0 8 8]
  iintro ⟨⟨⟨Hg, Hy, HS, HYS⟩, HF, HYS'⟩, HA, HR, _, HT, HW⟩
  isplitl [HF HR HW]
  · isplitl [HF]; · iexact HF
    isplitl [HR]; · iexact HR
    isplitl []; · iempintro
    iexact HW
  isplitl [Hg]; · iexact Hg
  isplitl [Hy]; · iexact Hy
  isplitl [HS]; · iexact HS
  isplitl [HYS HYS']
  · isplitl [HYS]; · iexact HYS
    iexact HYS'
  isplitl [HA]; · iexact HA
  iexact HT

theorem leave : iprop(postR c (resA O E W B Y G) 128 ∗ after c O E W B Y G) ⊢ held c O E W B Y G (resA O E W B Y G) := by
  have hS : bigSep (Finset.Ico 120 128) (anyS (F := F) c) = bigSep (Finset.Ico 8 16) (anyS c) := by
    rw [show Finset.Ico 120 128 = Finset.Ico (8 + 112) (16 + 112) from rfl, ← run_shift]
    exact run_congr fun p _ => anyS_mod c (by omega)
  have ho : bigSep (Finset.Ico 120 128) (fun p => zeroP (F := F) c (osem p)) = bigSep (Finset.Ico 0 8) (fun p => zeroP c (osem p)) := by
    rw [show Finset.Ico 120 128 = Finset.Ico (0 + 120) (8 + 120) from rfl, ← run_shift]
    exact run_congr fun p _ => by rw [osem_mod (p := p + 120) (p' := p) (by omega)]
  unfold held postR after
  rw [graph_pieces, column_pieces, result_pieces]
  simp only [run_sep, Finset.Ico_self, BI.bigSep_empty, arg_sep, hS, ho]
  rw [Finset.range_eq_Ico 128]
  iintro ⟨⟨_, HR, ⟨HS', Ho⟩, HW⟩, Hg, Hy, HS, HYS, ⟨HG, HY⟩, HT⟩
  isplitl [HT]; · iexact HT
  isplitl [HG]; · iexact HG
  isplitl [HY]; · iexact HY
  isplitl [HR]; · iexact HR
  isplitl [HS HS']
  · iapply ((entails_of_eq (halvesS (F := F) c).symm).trans (ring_join c))
    isplitl [HS]; · iexact HS
    iexact HS'
  isplitl [HYS]; · iapply (yring_join (F := F) c); iexact HYS
  isplitl [Hg]; · iexact Hg
  isplitl [Hy]; · iexact Hy
  isplitl [Ho]; · iexact Ho
  iexact HW

/-! ## The parts -/

theorem part22 {a0 a1 a2 a3 a4 a5 a6 a7 a8} {Q : PUnit → sProp 𝕄} :
    iprop(preG c G 0 ∗ preY c Y 0) ⊢ iprop((preG c G 2 -∗ preY c Y 1 -∗ Q ⟨⟩)
      -∗ WP c (k0_part22 (F := F) oM a0 fM a1 yM a2 wM a3 bM a4 gM a5 rM a6 gbM a7 ybM a8 cc0_scratch2 cc0_scratch3 cc0_scratch4) Q) := by
  rw [k0_part22_eq_skeleton]
  unfold k0_part22_skel
  simp only [wp_bind]
  iintro ⟨HG, HY⟩ Hk
  iapply (firstG c G 0 (by omega) (is_gch (by omega) rfl) (is_rslot (off2_eq 0)) (is_gsem (off1_eq 0))) $$ HG
  iintro HG
  iapply (firstY c Y 0 (by omega) (is_ych (by omega) rfl) (is_yslot (off3_eq 0)) (is_ysem (off1_eq 0))) $$ HY
  iintro HY
  iapply (firstG c G 1 (by omega) (is_gch (by omega) rfl) (is_rslot (off2_eq 1)) (is_gsem (off1_eq 1))) $$ HG
  iintro HG
  simp only [wp_pure]
  imodintro
  iapply Hk $$ HG HY

theorem part23 {a0 a1 a2 a3 a4 a5 a6 a7 a8} {Q : PUnit → sProp 𝕄} :
    iprop(preG c G 2 ∗ preY c Y 1) ⊢ iprop((preG c G 4 -∗ preY c Y 3 -∗ Q ⟨⟩)
      -∗ WP c (k0_part23 (F := F) oM a0 fM a1 yM a2 wM a3 bM a4 gM a5 rM a6 gbM a7 ybM a8 cc0_scratch2 cc0_scratch3 cc0_scratch4) Q) := by
  rw [k0_part23_eq_skeleton]
  unfold k0_part23_skel
  simp only [wp_bind]
  iintro ⟨HG, HY⟩ Hk
  iapply (firstY c Y 1 (by omega) (is_ych (by omega) rfl) (is_yslot (off3_eq 1)) (is_ysem (off1_eq 1))) $$ HY
  iintro HY
  iapply (firstG c G 2 (by omega) (is_gch (by omega) rfl) (is_rslot (off2_eq 2)) (is_gsem (off1_eq 2))) $$ HG
  iintro HG
  iapply (firstY c Y 2 (by omega) (is_ych (by omega) rfl) (is_yslot (off3_eq 2)) (is_ysem (off1_eq 2))) $$ HY
  iintro HY
  iapply (firstG c G 3 (by omega) (is_gch (by omega) rfl) (is_rslot (off2_eq 3)) (is_gsem (off1_eq 3))) $$ HG
  iintro HG
  simp only [wp_pure]
  imodintro
  iapply Hk $$ HG HY

theorem part24 {a0 a1 a2 a3 a4 a5 a6 a7 a8} {Q : BitVec 32 → sProp 𝕄} :
    iprop(preG c G 4 ∗ preY c Y 3) ⊢ iprop((preG c G 6 -∗ preY c Y 5 -∗ Q 5#32)
      -∗ WP c (k0_part24 (F := F) oM a0 fM a1 yM a2 wM a3 bM a4 gM a5 rM a6 gbM a7 ybM a8 cc0_scratch2 cc0_scratch3 cc0_scratch4) Q) := by
  rw [k0_part24_eq_skeleton]
  unfold k0_part24_skel
  simp only [wp_bind]
  iintro ⟨HG, HY⟩ Hk
  iapply (firstY c Y 3 (by omega) (is_ych (by omega) rfl) (is_yslot (off3_eq 3)) (is_ysem (off1_eq 3))) $$ HY
  iintro HY
  iapply (firstG c G 4 (by omega) (is_gch (by omega) rfl) (is_rslot (off2_eq 4)) (is_gsem (off1_eq 4))) $$ HG
  iintro HG
  iapply (firstY c Y 4 (by omega) (is_ych (by omega) rfl) (is_yslot (off3_eq 4)) (is_ysem (off1_eq 4))) $$ HY
  iintro HY
  iapply (firstG c G 5 (by omega) (is_gch (by omega) rfl) (is_rslot (off2_eq 5)) (is_gsem (off1_eq 5))) $$ HG
  iintro HG
  simp only [wp_pure]
  imodintro
  iapply Hk $$ HG HY

theorem part25 {a0 a1 a2 a3 a4 a5 a6 a7 a8} {Q : PUnit → sProp 𝕄} :
    iprop(preG c G 6 ∗ preY c Y 5) ⊢ iprop((preG c G 8 -∗ preY c Y 7 -∗ Q ⟨⟩)
      -∗ WP c (k0_part25 (F := F) oM a0 fM a1 yM a2 wM a3 bM a4 gM a5 rM a6 gbM a7 ybM a8 cc0_scratch2 cc0_scratch3 cc0_scratch4 5#32) Q) := by
  rw [k0_part25_eq_skeleton]
  unfold k0_part25_skel
  simp only [wp_bind]
  iintro ⟨HG, HY⟩ Hk
  iapply (firstY c Y 5 (by omega) (is_ych (by omega) rfl) (is_yslot (off3_eq 5)) (is_ysem (off1_eq 5))) $$ HY
  iintro HY
  iapply (firstG c G 6 (by omega) (is_gch (by omega) rfl) (is_rslot (off2_eq 6)) (is_gsem (off1_eq 6))) $$ HG
  iintro HG
  iapply (firstY c Y 6 (by omega) (is_ych (by omega) rfl) (is_yslot (off3_eq 6)) (is_ysem (off1_eq 6))) $$ HY
  iintro HY
  iapply (firstG c G 7 (by omega) (is_gch (by omega) rfl) (is_rslot (off2_eq 7)) (is_gsem (off1_eq 7))) $$ HG
  iintro HG
  simp only [wp_pure]
  imodintro
  iapply Hk $$ HG HY

/-- THE LOOP: the trips one after another. -/
theorem loop {a0 a1 a2 a3 a4 a5 a6 a7 a8} {Q : Unit → sProp 𝕄} :
    ring c O E W B Y G R₀ 0 ⊢ iprop((ring c O E W B Y G R₀ 128 -∗ Q ⟨⟩)
      -∗ WP c (Scf.Loop.for k0_t1_loop k0_t1_ok ⟨⟩ (k0_t1_body (F := F) oM a0 fM a1 yM a2 wM a3 bM a4 gM a5 rM a6 gbM a7 ybM a8 cc0_scratch2 cc0_scratch3 cc0_scratch4)) Q) := by
  have key := Scf.wp_for (M := 𝕄) frame (wpE (defs₀ (F := F)) 𝒱₀ (c : Thread nD τ) none) Set.univ k0_t1_loop.lb k0_t1_loop.ub k0_t1_loop.st
    k0_t1_ok ⟨⟩ (k0_t1_body (F := F) oM a0 fM a1 yM a2 wM a3 bM a4 gM a5 rM a6 gbM a7 ybM a8 cc0_scratch2 cc0_scratch3 cc0_scratch4)
    (fun k _ => ring c O E W B Y G R₀ k) (fun k u => trip c O E W B Y G R₀ k u) (Q := Q)
  rw [show Scf.trips k0_t1_loop.lb k0_t1_loop.ub k0_t1_loop.st = 128 from trips_eq] at key
  iintro H Hk
  iapply key
  isplitl [H]; · iexact H
  iintro %u H
  iapply Hk $$ H

/-- The last request, the loop, and the first waits of the epilogue. -/
theorem part26 {a0 a1 a2 a3 a4 a5 a6 a7 a8} {Q : PUnit → sProp 𝕄} :
    iprop(preG c G 8 ∗ preY c Y 7 ∗ beside c O E W B Y G R₀)
      ⊢ iprop((postR c (resA O E W B Y G) 122 -∗ after c O E W B Y G -∗ Q ⟨⟩)
      -∗ WP c (k0_part26 (F := F) oM a0 fM a1 yM a2 wM a3 bM a4 gM a5 rM a6 gbM a7 ybM a8 cc0_scratch2 cc0_scratch3 cc0_scratch4) Q) := by
  rw [k0_part26_eq_skeleton]
  unfold k0_part26_skel
  simp only [wp_bind]
  iintro ⟨HG, HY, HB⟩ Hk
  iapply (firstY c Y 7 (by omega) (is_ych (by omega) rfl) (is_yslot (off3_eq 7)) (is_ysem (off1_eq 7))) $$ HY
  iintro HY
  iapply (loop c O E W B Y G R₀) $$ [HG HY HB]
  · iapply (ring_first c O E W B Y G R₀)
    isplitl [HG]; · iexact HG
    isplitl [HY]; · iexact HY
    iexact HB
  iintro HR
  ihave HR := (ring_last c O E W B Y G R₀) $$ HR
  icases HR with ⟨HP, HA⟩
  iapply (lastR c (resA O E W B Y G) 120 (by omega) (by omega) (is_rch (by omega) rfl) (is_osem (by decide))) $$ HP
  iintro HP
  iapply (lastR c (resA O E W B Y G) 121 (by omega) (by omega) (is_rch (by omega) rfl) (is_osem (by decide))) $$ HP
  iintro HP
  simp only [wp_pure]
  imodintro
  iapply Hk $$ HP HA

theorem part27 {a0 a1 a2 a3 a4 a5 a6 a7 a8} {Q : (Σ' (_ : BitVec 32), BitVec 32) → sProp 𝕄} :
    postR c (resA O E W B Y G) 122 ⊢ iprop((postR c (resA O E W B Y G) 126 -∗ Q ⟨126#32, 16#32⟩)
      -∗ WP c (k0_part27 (F := F) oM a0 fM a1 yM a2 wM a3 bM a4 gM a5 rM a6 gbM a7 ybM a8 cc0_scratch2 cc0_scratch3 cc0_scratch4) Q) := by
  rw [k0_part27_eq_skeleton]
  unfold k0_part27_skel
  simp only [wp_bind]
  iintro HP Hk
  iapply (lastR c (resA O E W B Y G) 122 (by omega) (by omega) (is_rch (by omega) rfl) (is_osem (by decide))) $$ HP
  iintro HP
  iapply (lastR c (resA O E W B Y G) 123 (by omega) (by omega) (is_rch (by omega) rfl) (is_osem (by decide))) $$ HP
  iintro HP
  iapply (lastR c (resA O E W B Y G) 124 (by omega) (by omega) (is_rch (by omega) rfl) (is_osem (by decide))) $$ HP
  iintro HP
  iapply (lastR c (resA O E W B Y G) 125 (by omega) (by omega) (is_rch (by omega) rfl) (is_osem (by decide))) $$ HP
  iintro HP
  simp only [wp_pure]
  imodintro
  iapply Hk $$ HP

/-- THE KERNEL'S BODY: from the arguments and the result's buffer at anything to the same arguments and the result. -/
theorem bodyRun {a0 a1 a2 a3 a4 a5 a6 a7 a8} {Q : PUnit → sProp 𝕄} :
    held c O E W B Y G R₀ ⊢ iprop((held c O E W B Y G (resA O E W B Y G) -∗ Q ⟨⟩)
      -∗ WP c (cc0__body (F := F) oM a0 fM a1 yM a2 wM a3 bM a4 gM a5 rM a6 gbM a7 ybM a8 cc0_scratch2 cc0_scratch3 cc0_scratch4) Q) := by
  rw [cc0__body_eq_skeleton]
  unfold cc0__body_skel
  simp only [wp_bind]
  iintro H Hk
  ihave H := (enter c O E W B Y G R₀) $$ H
  icases H with ⟨HG, HY, HB⟩
  iapply (part22 c Y G) $$ [HG HY]
  · isplitl [HG]; · iexact HG
    iexact HY
  iintro HG HY
  iapply (part23 c Y G) $$ [HG HY]
  · isplitl [HG]; · iexact HG
    iexact HY
  iintro HG HY
  iapply (part24 c Y G) $$ [HG HY]
  · isplitl [HG]; · iexact HG
    iexact HY
  iintro HG HY
  iapply (part25 c Y G) $$ [HG HY]
  · isplitl [HG]; · iexact HG
    iexact HY
  iintro HG HY
  iapply (part26 c O E W B Y G R₀) $$ [HG HY HB]
  · isplitl [HG]; · iexact HG
    isplitl [HY]; · iexact HY
    iexact HB
  iintro HP HA
  iapply (part27 c O E W B Y G) $$ HP
  iintro HP
  iapply (lastR c (resA O E W B Y G) 126 (by omega) (by omega) (is_rch (by omega) rfl) (is_osem (by decide))) $$ HP
  iintro HP
  iapply (lastR c (resA O E W B Y G) 127 (by omega) (by omega) (is_rch (by omega) rfl) (is_osem (by decide))) $$ HP
  iintro HP
  try simp only [wp_pure]
  try imodintro
  iapply Hk
  iapply (leave c O E W B Y G)
  isplitl [HP]; · iexact HP
  iexact HA

end Cert.Proof.Ring

end
-- ==== Proof.Launch.lean ====
/-
  The launch: the whole program runs, the arguments end as they began, every semaphore ends at zero, and the result is
  what the ring computes from the arguments and the four tables the host wrote.
-/
module

public import proofs.«01_k».proof.Proof.Whole
public import proofs.«01_k».proof.Proof.Gen.KernelIdeal.Launch
public import proofs.«01_k».proof.Proof.Gen.KernelIdeal.Points
public import proofs.«01_k».proof.Proof.Gen.KernelIdeal.Frame
public import Idealize.ShloMosaic.Lib.Pipeline.Routed

@[expose] public section

noncomputable section

namespace Cert.Proof.Ring

open Cert.KernelIdeal Cert.KernelIdeal.Gen
open Idealize.ShloMosaic Idealize.ShloMosaic.TcCoe Idealize.ShloMosaic.Tactic
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F]
local notation "𝕄" => MT nD τ sig Unit (Elt F) ℕ (UU nD τ) ℕ

variable (v : (c : Dev nD) → (b : Ref sig .tc) → Buf (Elt F) ((c.tc : Thread nD τ).loc b))
variable (m : (ℓ : Loc nD τ sig) → Buf (Elt F) ℓ) (ρ : Dev nD → PrngReg)

/-! ## The kernel's own semaphores -/

/-- The three rows of eight. -/
def ownSem : Fin 3 × Fin 8 → SemLoc sig
  | (0, j) => .dma (gsem j.val)
  | (1, j) => .dma (ysem j.val)
  | (2, j) => .dma (osem j.val)

theorem ownSemFacts : Pipeline.OwnSemFacts spec0 ownSem := by decide

theorem eight (Φ : ℕ → sProp 𝕄) : bigSep (Finset.univ : Finset (Fin 8)) (fun j => Φ j.val) = bigSep (Finset.Ico 0 8) Φ := by
  rw [← Finset.range_eq_Ico]
  exact Ring.bigSep_fin_eq_range 8 _ Φ (fun _ _ => rfl)

theorem ownSems_eq (c : Dev nD) : (Pipeline.ownSems0 (Ix := Unit) (Name := ℕ) (U := UU nD τ) (Lvl := ℕ) (Val := Elt F) (τ := τ) ownSem c : sProp 𝕄)
    = iprop(bigSep (Finset.Ico 0 8) (fun p => zeroP c (gsem p)) ∗ bigSep (Finset.Ico 0 8) (fun p => zeroP c (ysem p))
        ∗ bigSep (Finset.Ico 0 8) (fun p => zeroP c (osem p))) := by
  unfold Pipeline.ownSems0
  rw [← eight, ← eight, ← eight]
  exact (BI.bigSep_univ_prod _).trans (Ring.bigSep_fin3 _)

/-! ## The buffers the body moves itself -/

/-- The column, the graph and the result. -/
def moved : Finset (Ref sig .tc) := {main_arg0, main_arg2, main_v53}

theorem moved_rest : moved ⊆ Pipeline.restRefs sig spec0 := by decide

theorem routed_eq (c : Dev nD) (W : (b : Ref sig .tc) → Buf (Elt F) ((c.tc : Thread nD τ).loc b)) :
    (Pipeline.routed moved c W : sProp 𝕄) = iprop((gM.view.loc (c : Thread nD τ) ↦{fullShare} W main_arg2)
      ∗ (yM.view.loc (c : Thread nD τ) ↦{fullShare} W main_arg0) ∗ (rM.view.loc (c : Thread nD τ) ↦{fullShare} W main_v53)) := by
  exact bigSep_eq_bigSepL_of_eq [main_arg2, main_arg0, main_v53] (by decide) (by decide) _

/-- Window `w`'s block at point `t`, read off its array as the region finds it. -/
def blkAt (c : Dev nD) (w : Fin cfg0.W) (t : Fin cfg0.N) : ((cfg0.win w).xblock (cfg0.grid.coords t)).Idx → Elt F (cfg0.win w).elt :=
  ((cfg0.win w).blk t).view.read (Elt F) (v c (Pipeline.arrRef spec0 w))

/-- A core's buffers after the run: the result computed, the rest as the region found them. -/
def endV (c : Dev nD) (b : Ref sig .tc) : Buf (Elt F) ((c.tc : Thread nD τ).loc b) :=
  if h : b = main_v53 then h ▸ (resA (blkAt v c 0 t0_0) (blkAt v c 1 t0_0) (blkAt v c 2 t0_0) (blkAt v c 3 t0_0) (v c main_arg0) (v c main_arg2) :
    Buf (Elt F) ((c.tc : Thread nD τ).loc main_v53)) else v c b

theorem endV_kept (c : Dev nD) (b : Ref sig .tc) (h : b ≠ main_v53) : endV v c b = v c b := dif_neg h
theorem endV_moved (c : Dev nD) : endV v c main_v53
    = resA (blkAt v c 0 t0_0) (blkAt v c 1 t0_0) (blkAt v c 2 t0_0) (blkAt v c 3 t0_0) (v c main_arg0) (v c main_arg2) := dif_pos rfl

/-- What the pipeline's proof is about: each window holds its block throughout, the body's invariant is what it is given
    before the point and what it gives back after. -/
def dats (_ : Fin 1) (c : Dev nD) : Dat τ (Elt F) Unit ℕ (UU nD τ) ℕ cfg0 c where
  A w := v c (Pipeline.arrRef spec0 w)
  after w t := match w with
    | ⟨0, _⟩ => blkAt v c 0 t
    | ⟨1, _⟩ => blkAt v c 1 t
    | ⟨2, _⟩ => blkAt v c 2 t
    | ⟨3, _⟩ => blkAt v c 3 t
  Φ t := if t.val = 0 then Pipeline.Ends spec0 ownSem moved c (v c) else Pipeline.Ends spec0 ownSem moved c (endV v c)
  q _ := fullShare
  owed _ := 0

theorem before0 (c : Dev nD) (t : Fin cfg0.N) (d) : (dats v 0 c).before 0 t d = blkAt v c 0 t := by
  unfold Dat.before; rw [if_pos (fetch0_0 t)]; unfold Dat.fetched Dat.blockOf blkAt; dsimp only [dats]; rfl
theorem after0 (c : Dev nD) (t : Fin cfg0.N) : (dats v 0 c).after 0 t = blkAt v c 0 t := by dsimp only [dats]
theorem before1 (c : Dev nD) (t : Fin cfg0.N) (d) : (dats v 0 c).before 1 t d = blkAt v c 1 t := by
  unfold Dat.before; rw [if_pos (fetch0_1 t)]; unfold Dat.fetched Dat.blockOf blkAt; dsimp only [dats]; rfl
theorem after1 (c : Dev nD) (t : Fin cfg0.N) : (dats v 0 c).after 1 t = blkAt v c 1 t := by dsimp only [dats]
theorem before2 (c : Dev nD) (t : Fin cfg0.N) (d) : (dats v 0 c).before 2 t d = blkAt v c 2 t := by
  unfold Dat.before; rw [if_pos (fetch0_2 t)]; unfold Dat.fetched Dat.blockOf blkAt; dsimp only [dats]; rfl
theorem after2 (c : Dev nD) (t : Fin cfg0.N) : (dats v 0 c).after 2 t = blkAt v c 2 t := by dsimp only [dats]
theorem before3 (c : Dev nD) (t : Fin cfg0.N) (d) : (dats v 0 c).before 3 t d = blkAt v c 3 t := by
  unfold Dat.before; rw [if_pos (fetch0_3 t)]; unfold Dat.fetched Dat.blockOf blkAt; dsimp only [dats]; rfl
theorem after3 (c : Dev nD) (t : Fin cfg0.N) : (dats v 0 c).after 3 t = blkAt v c 3 t := by dsimp only [dats]

theorem defs_tc : (defs₀ (F := F)) .tc cfg0.body
    = fun a => cc0__body (F := F) (win0_0.stage (a.2 0)) (hstage0_0 0) (win0_1.stage (a.2 1)) (hstage0_1 0) (Memref.whole main_arg0) (Memref.isWhole_whole _)
        (win0_2.stage (a.2 2)) (hstage0_2 0) (win0_3.stage (a.2 3)) (hstage0_3 0) (Memref.whole main_arg2) (Memref.isWhole_whole _)
        (Memref.whole main_v53) (Memref.isWhole_whole _) (Memref.whole cc0_scratch0) (Memref.isWhole_whole _)
        (Memref.whole cc0_scratch1) (Memref.isWhole_whole _) cc0_scratch2 cc0_scratch3 cc0_scratch4 := rfl

theorem prog_eq (t : Fin cfg0.N) : (defs₀ (F := F)) .tc cfg0.body (cfg0.bodyArgs t (cfg0.slots t))
    = cc0__body (F := F) oM (Memref.isWhole_whole _) fM (Memref.isWhole_whole _) yM (Memref.isWhole_whole _) wM (Memref.isWhole_whole _) bM (Memref.isWhole_whole _)
        gM (Memref.isWhole_whole _) rM (Memref.isWhole_whole _) gbM (Memref.isWhole_whole _) ybM (Memref.isWhole_whole _) cc0_scratch2 cc0_scratch3 cc0_scratch4 :=
  (congrFun defs_tc _).trans rfl

section Region

variable (c : Dev nD) (O : S1x16.Idx → BitVec 32) (E : S1x16.Idx → Elt F .f32) (W B : S1x128.Idx → Elt F .f32)
  (Y : S131072x1.Idx → Elt F .f32) (G R₀ : S262144x128.Idx → Elt F .f32) (S : Set (SemLoc sig × Unit))

/-- The buffers as the region holds them before the body; -/
def beforeP (P : sProp 𝕄) (R : S262144x128.Idx → Elt F .f32) : sProp 𝕄 :=
  iprop((((gM.view.loc (c : Thread nD τ) ↦{fullShare} G) ∗ (yM.view.loc (c : Thread nD τ) ↦{fullShare} Y) ∗ (rM.view.loc (c : Thread nD τ) ↦{fullShare} R))
      ∗ (bigSep (Finset.Ico 0 8) (fun p => zeroP c (gsem p)) ∗ bigSep (Finset.Ico 0 8) (fun p => zeroP c (ysem p))
        ∗ bigSep (Finset.Ico 0 8) (fun p => zeroP c (osem p)))
      ∗ ((∃ f, gbM.view.loc (c : Thread nD τ) ↦{fullShare} f) ∗ (∃ f, ybM.view.loc (c : Thread nD τ) ↦{fullShare} f)) ∗ P)
    ∗ Pipeline.owesWithin c 0 S
    ∗ (∃ d : S1x16.Idx → BitVec 32, owns (c : Thread nD τ) oM fullShare O) ∗ (∃ d : S1x16.Idx → Elt F .f32, owns (c : Thread nD τ) fM fullShare E)
    ∗ (∃ d : S1x128.Idx → Elt F .f32, owns (c : Thread nD τ) wM fullShare W) ∗ (∃ d : S1x128.Idx → Elt F .f32, owns (c : Thread nD τ) bM fullShare B))
/-- and after. -/
def behindP (P : sProp 𝕄) (R : S262144x128.Idx → Elt F .f32) : sProp 𝕄 :=
  iprop((((gM.view.loc (c : Thread nD τ) ↦{fullShare} G) ∗ (yM.view.loc (c : Thread nD τ) ↦{fullShare} Y) ∗ (rM.view.loc (c : Thread nD τ) ↦{fullShare} R))
      ∗ (bigSep (Finset.Ico 0 8) (fun p => zeroP c (gsem p)) ∗ bigSep (Finset.Ico 0 8) (fun p => zeroP c (ysem p))
        ∗ bigSep (Finset.Ico 0 8) (fun p => zeroP c (osem p)))
      ∗ ((∃ f, gbM.view.loc (c : Thread nD τ) ↦{fullShare} f) ∗ (∃ f, ybM.view.loc (c : Thread nD τ) ↦{fullShare} f)) ∗ P)
    ∗ Pipeline.owesWithin c 0 S
    ∗ owns (c : Thread nD τ) oM fullShare O ∗ owns (c : Thread nD τ) fM fullShare E
    ∗ owns (c : Thread nD τ) wM fullShare W ∗ owns (c : Thread nD τ) bM fullShare B)

theorem region_in (P : sProp 𝕄) : beforeP c O E W B Y G S P R₀ ⊢ iprop(held c O E W B Y G R₀ ∗ P) := by
  unfold beforeP held tabs owesP
  rw [owns_whole, owns_whole, owns_whole, owns_whole]
  iintro ⟨⟨⟨HG, HY, HR⟩, ⟨Hg, Hy, Ho⟩, ⟨HS, HYS⟩, Hp⟩, ⟨%w, -, HW⟩, ⟨%d0, H0⟩, ⟨%d1, H1⟩, ⟨%d2, H2⟩, ⟨%d3, H3⟩⟩
  isplitr [Hp]
  · isplitl [H0 H1 H2 H3]
    · isplitl [H0]; · iexact H0
      isplitl [H1]; · iexact H1
      isplitl [H2]; · iexact H2
      iexact H3
    isplitl [HG]; · iexact HG
    isplitl [HY]; · iexact HY
    isplitl [HR]; · iexact HR
    isplitl [HS]; · iexact HS
    isplitl [HYS]; · iexact HYS
    isplitl [Hg]; · iexact Hg
    isplitl [Hy]; · iexact Hy
    isplitl [Ho]; · iexact Ho
    iexists _; iexact HW
  iexact Hp

theorem region_out (P : sProp 𝕄) (hS : ∀ x, x ∈ S) (R : S262144x128.Idx → Elt F .f32) : iprop(held c O E W B Y G R ∗ P) ⊢ behindP c O E W B Y G S P R := by
  unfold behindP held tabs owesP
  rw [owns_whole, owns_whole, owns_whole, owns_whole]
  iintro ⟨⟨⟨H0, H1, H2, H3⟩, HG, HY, HR, HS, HYS, Hg, Hy, Ho, ⟨%W', HW⟩⟩, Hp⟩
  isplitl [HG HY HR HS HYS Hg Hy Ho Hp]
  · isplitl [HG HY HR]
    · isplitl [HG]; · iexact HG
      isplitl [HY]; · iexact HY
      iexact HR
    isplitl [Hg Hy Ho]
    · isplitl [Hg]; · iexact Hg
      isplitl [Hy]; · iexact Hy
      iexact Ho
    isplitl [HS HYS]
    · isplitl [HS]; · iexact HS
      iexact HYS
    iexact Hp
  isplitl [HW]
  · iexists W'; isplitr; · ipureintro; exact fun _ _ => hS _
    iexact HW
  isplitl [H0]; · iexact H0
  isplitl [H1]; · iexact H1
  isplitl [H2]; · iexact H2
  iexact H3

/-- The body among the buffers as the region holds them. -/
theorem region (P : sProp 𝕄) (S' : Set (SemLoc sig × Unit)) (hS : ∀ x, x ∈ S') {a0 a1 a2 a3 a4 a5 a6 a7 a8} :
    beforeP c O E W B Y G S P R₀ ⊢ WP c (cc0__body (F := F) oM a0 fM a1 yM a2 wM a3 bM a4 gM a5 rM a6 gbM a7 ybM a8 cc0_scratch2 cc0_scratch3 cc0_scratch4)
      (fun _ => behindP c O E W B Y G S' P (resA O E W B Y G)) := by
  iintro H
  ihave H := (region_in c O E W B Y G R₀ S P) $$ H
  icases H with ⟨H, Hp⟩
  iapply (bodyRun c O E W B Y G R₀) $$ H
  iintro H
  iapply (region_out c O E W B Y G S' P hS _)
  isplitl [H]; · iexact H
  iexact Hp

end Region

set_option backward.isDefEq.respectTransparency.types false in
theorem body_obligation (c : Dev nD) : BodyObligation (dats (F := F) v 0 c) (defs₀ (F := F)) 𝒱₀ () Set.univ := fun t => by
  obtain rfl : t = t0_0 := fin_N0 t
  rw [bigSep_W0, bigSep_W0]
  dsimp only
  simp only [before0, before1, before2, before3, after0, after1, after2, after3]
  rw [show (dats v 0 c).Φ t0_0.castSucc = Pipeline.Ends spec0 ownSem moved c (v c) from rfl,
    show (dats v 0 c).Φ t0_0.succ = Pipeline.Ends spec0 ownSem moved c (endV v c) from rfl]
  unfold Dat.owesAt
  rw [show (dats v 0 c).owed t0_0.castSucc = 0 from rfl, show (dats v 0 c).owed t0_0.succ = 0 from rfl]
  unfold Pipeline.Ends
  rw [routed_eq, routed_eq, ownSems_eq, scopedRest0_eq, endV_kept v c main_arg2 (by decide), endV_kept v c main_arg0 (by decide), endV_moved]
  rw [prog_eq t0_0]
  exact region c (blkAt v c 0 t0_0) (blkAt v c 1 t0_0) (blkAt v c 2 t0_0) (blkAt v c 3 t0_0) (v c main_arg0) (v c main_arg2) (v c main_v53) _ _ _ (fun _ => Or.inl trivial)

/-- Each window is its whole array. -/
theorem blk0 (c : Dev nD) : blkAt v c 0 t0_0 = v c main_v38 :=
  funext fun i => congrArg (v c main_v38) (funext fun a => by fin_cases a <;> exact Fin.ext ((Nat.zero_add _).trans (Nat.one_mul _)))
theorem blk1 (c : Dev nD) : blkAt v c 1 t0_0 = v c main_v50 :=
  funext fun i => congrArg (v c main_v50) (funext fun a => by fin_cases a <;> exact Fin.ext ((Nat.zero_add _).trans (Nat.one_mul _)))
theorem blk2 (c : Dev nD) : blkAt v c 2 t0_0 = v c main_v51 :=
  funext fun i => congrArg (v c main_v51) (funext fun a => by fin_cases a <;> exact Fin.ext ((Nat.zero_add _).trans (Nat.one_mul _)))
theorem blk3 (c : Dev nD) : blkAt v c 3 t0_0 = v c main_v52 :=
  funext fun i => congrArg (v c main_v52) (funext fun a => by fin_cases a <;> exact Fin.ext ((Nat.zero_add _).trans (Nat.one_mul _)))

/-! ## The run -/

/-- The result as the run leaves it. -/
def result (c : Dev nD) : Buf (Elt F) ((c.tc : Thread nD τ).loc main_v53) :=
  resA (v c main_v38) (v c main_v50) (v c main_v51) (v c main_v52) (v c main_arg0) (v c main_arg2)

theorem endV_result (c : Dev nD) : endV v c main_v53 = result v c := by
  rw [endV_moved, blk0, blk1, blk2, blk3]; rfl

theorem rest (b : Ref sig .tc) (h1 : b.isScoped = false) (h2 : ∀ w, (spec0 w).arr.view.ref ≠ b) (h3 : b ∉ moved) : b ∈ Pipeline.restRefs sig spec0 \ moved :=
  Finset.mem_sdiff.2 ⟨Pipeline.mem_restRefs_of b h1 h2, h3⟩

/-- What every final state has: the result, and everything that no window stages as the region found it. -/
def Final (r : PUnit × MemSt nD τ sig (Elt F)) : Prop :=
  (∀ c : Dev nD, r.2.mem ((c.tc : Thread nD τ).loc main_v53) = result v c
    ∧ r.2.mem ((c.tc : Thread nD τ).loc main_arg0) = v c main_arg0
    ∧ r.2.mem ((c.tc : Thread nD τ).loc main_arg1) = v c main_arg1
    ∧ r.2.mem ((c.tc : Thread nD τ).loc main_arg2) = v c main_arg2
    ∧ r.2.mem ((c.tc : Thread nD τ).loc main_arg3) = v c main_arg3
    ∧ r.2.mem ((c.tc : Thread nD τ).loc main_arg4) = v c main_arg4)
  ∧ r.2.sem = fun _ => 0

theorem final_of (r : PUnit × MemSt nD τ sig (Elt F)) (h : Pipeline.RoutedPost cfgs (dats v) 0 moved v (endV v) r ∧ r.2.sem = (fun _ => 0)) : Final v r :=
  ⟨fun c => by
      have h2 := (h.1 c).2.1
      have h3 := (h.1 c).2.2
      exact ⟨(h2 main_v53 (by decide)).trans (endV_result v c),
        (h2 main_arg0 (by decide)).trans (endV_kept v c _ (by decide)),
        h3 main_arg1 (rest _ (by decide) (by decide) (by decide)),
        (h2 main_arg2 (by decide)).trans (endV_kept v c _ (by decide)),
        h3 main_arg3 (rest _ (by decide) (by decide) (by decide)),
        h3 main_arg4 (rest _ (by decide) (by decide) (by decide))⟩, h.2⟩

set_option maxRecDepth 65536 in
set_option maxHeartbeats 2000000 in
/-- THE RUN: from any memory with the counters at zero every fair execution terminates in a state as `Final` says, if the
    host's part of @main leads to the region at `v`. -/
theorem run_of (hmain : Pipeline.HMain (Ix := Unit) (Name := ℕ) (U := UU nD τ) (Lvl := ℕ) cfgs 0 (defs₀ (F := F)) 𝒱₀ m (main (F := F)) v) :
    θ_run defs (onTc (τ := τ) (main (F := F))) (s₀ m ρ) (Final v) :=
  Pipeline.θ_run_frame_routed cfgs (dats v) 0 launch0 ownSemFacts defs₀ 𝒱₀ m ρ main
    (hbody := fun c => (body_obligation v c).loose) (hshare := fun c => (dats v 0 c).share_full fun _ => rfl)
    (howed := fun _ _ => rfl) (V := v) (hmain := hmain) (hA := fun _ _ => rfl)
    (R := moved) (hR := moved_rest) (Y := endV v) (hin := fun _ => .rfl) (hout := fun _ => .rfl)
    (Q' := Final v) (hQ' := final_of v)

end Cert.Proof.Ring

end
-- ==== Proof.Run.lean ====
/-
  The run from the launch memory: the host's steps lead to the region, and no step of the host writes an argument.
-/
module

public import proofs.«01_k».proof.Proof.Launch

@[expose] public section

noncomputable section

namespace Cert.Proof.Ring

open Cert.KernelIdeal Cert.KernelIdeal.Gen
open Idealize.ShloMosaic Idealize.ShloMosaic.TcCoe Idealize.ShloMosaic.Tactic
open Idealize.SL Idealize.SL.RA Idealize.SL.BI
open Idealize.SL.Sem

variable {F : FTy → Type} [FloatOps F]
variable (m : (ℓ : Loc nD τ sig) → Buf (Elt F) ℓ) (ρ : Dev nD → PrngReg)

theorem main_run : Pipeline.HMain (Ix := Unit) (Name := ℕ) (U := UU nD τ) (Lvl := ℕ) cfgs 0 (defs₀ (F := F)) 𝒱₀ m (main (F := F)) (V m) :=
  Pipeline.hmain_prefixes cfgs 0 defs₀ 𝒱₀ m main [hostOps0, hostOps0_1, hostOps0_2, hostOps0_3, hostOps0_4, hostOps0_5, hostOps0_6]
    (by simp only [List.Forall]; exact ⟨hostOps0_sub, hostOps0_1_sub, hostOps0_2_sub, hostOps0_3_sub, hostOps0_4_sub, hostOps0_5_sub, hostOps0_6_sub⟩)
    (by simp only [List.Forall]; exact ⟨hostOps0_fresh, hostOps0_1_fresh, hostOps0_2_fresh, hostOps0_3_fresh, hostOps0_4_fresh, hostOps0_5_fresh, hostOps0_6_fresh⟩)
    main_chain

/-- Every fair execution terminates; the result is the ring's, the arguments are as they were, the counters are at zero. -/
theorem run : θ_run defs (onTc (τ := τ) (main (F := F))) (s₀ m ρ) fun r =>
    (∀ c : Dev nD, r.2.mem ((c.tc : Thread nD τ).loc main_v53) = result (V m) c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
    ∧ r.2.sem = fun _ => 0 :=
  (θ_run defs _ (s₀ m ρ)).monotone (fun r h => ⟨fun c => by
    obtain ⟨h0, h1, h2, h3, h4, h5⟩ := h.1 c
    exact ⟨h0, h1.trans (V_main_arg0 m c), h2.trans (V_main_arg1 m c), h3.trans (V_main_arg2 m c), h4.trans (V_main_arg3 m c), h5.trans (V_main_arg4 m c)⟩, h.2⟩)
    (run_of (V m) m ρ (main_run m))

end Cert.Proof.Ring

end
-- ==== Proof.Frames.lean ====
/-
  The frame claims of the kernel, as printed and idealized: the two programs are one text, so the run of the one is the
  run of the other.
-/
module

public import proofs.«01_k».proof.Proof.Run
public import proofs.«01_k».proof.Proof.Gen.Kernel
public import proofs.«01_k».proof.Proof.Gen.ReferenceIdeal.Run
public import Idealize.ShloMosaic.Lib.Quiescent
public import proofs.«01_k».proof.Defs

@[expose] public section

noncomputable section

namespace Cert.Proof.Ring

open Idealize.ShloMosaic Idealize.ShloMosaic.TcCoe Idealize.ShloMosaic.Tactic
open Idealize.SL.Sem

/-- What a frame claim says of the ideal program's text at a float type. -/
def FrameAt (F : FTy → Type) [FloatOps F] : Prop :=
  ∀ (m : (ℓ : Loc Cert.KernelIdeal.nD Cert.KernelIdeal.τ Cert.KernelIdeal.sig) → Buf (Elt F) ℓ) (g : Dev Cert.KernelIdeal.nD → PrngReg), True →
    θ_run (Cert.KernelIdeal.defs (F := F)) (onTc (τ := Cert.KernelIdeal.τ) (Cert.KernelIdeal.main (F := F))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem frameAt (F : FTy → Type) [FloatOps F] : FrameAt F := fun m g _ =>
  (θ_run _ _ _).monotone (fun _ h => ⟨fun c => (h.1 c).2, h.2⟩) (run m g)

theorem frame_ideal : Cert.quiescent_KernelIdeal := frameAt Ideal

theorem frame_bits_eq : FrameAt Bits = Cert.quiescent_Kernel := by sl_kernel_rfl

theorem frame_bits : Cert.quiescent_Kernel := frame_bits_eq.mp (frameAt Bits)

/-- The reference is host code alone and declares no semaphore. -/
theorem frame_reference : Cert.quiescent_ReferenceIdeal := fun m g _ =>
  (θ_run _ _ _).monotone (fun r h => ⟨fun c => (h c).2, sem_eq_zero_of_no_sems rfl r.2⟩) (Cert.ReferenceIdeal.Value.run m g)

end Cert.Proof.Ring

end
-- ==== Proof.Fit.lean ====
/-
  What the precondition says of the arguments: `y`, the weight and the bias are finite.
-/
module

public import proofs.«01_k».proof.Proof.Gen.Pre_inputs_fit
public import Idealize.ShloMosaic.Lib.ReduceAll
public import Idealize.ShloMosaic.Lib.Pointwise

@[expose] public section

noncomputable section

namespace Cert.Proof.Ring

open Cert.Pre_inputs_fit Cert.Pre_inputs_fit.Gen
open Idealize.ShloMosaic

instance : Subsingleton (S_ : Shape).Idx := ⟨fun a b => funext fun x => x.elim0⟩

theorem ofBits_inf : Ideal.ofBits .f32 0x7F800000#32 = ⊤ := by simp [Ideal.ofBits, Ideal.ieee]

/-- An extended real of absolute value below infinity is neither infinity. -/
theorem finite_of_abs (x : EReal) (h : Ideal.cmp .olt (max x (-x)) (Ideal.ofBits .f32 0x7F800000#32) = 1#1) : x ≠ ⊤ ∧ x ≠ ⊥ := by
  rw [ofBits_inf] at h
  have hlt : max x (-x) < ⊤ := (Ideal.cmp_olt_eq_one _ _).1 h
  constructor
  · rintro rfl; simp at hlt
  · rintro rfl; simp at hlt

theorem fit_decode (y : FVec Ideal S131072x1 .f32) (p : IVec S17 32) (g : FVec Ideal S262144x128 .f32) (w : FVec Ideal S128x1 .f32)
    (b : FVec Ideal S128 .f32) (h : fn (F := Ideal) y p g w b = fun _ => 1#1) :
    (∀ i, y i ≠ ⊤ ∧ y i ≠ ⊥) ∧ (∀ i, w i ≠ ⊤ ∧ w i ≠ ⊥) ∧ (∀ i, b i ≠ ⊤ ∧ b i ≠ ⊥) := by
  have h0 := congrFun h (fun x => x.elim0)
  unfold fn at h0
  obtain ⟨h123, h4⟩ := IntOp.andi_eq_one.1 h0
  obtain ⟨h2, h3⟩ := IntOp.andi_eq_one.1 h123
  refine ⟨fun i => ?_, fun i => ?_, fun i => ?_⟩
  · exact finite_of_abs _ (Host.reduce_andi_all _ _ _ _ _ h2 i)
  · exact finite_of_abs _ (Host.reduce_andi_all _ _ _ _ _ h3 i)
  · exact finite_of_abs _ (Host.reduce_andi_all _ _ _ _ _ h4 i)

end Cert.Proof.Ring

end
-- ==== Proof.Tables.lean ====
/-
  The tables that the host makes before the ring starts, as functions of the arguments.
-/
module

public import proofs.«01_k».proof.Proof.Gen.KernelIdeal.Frame
public import Idealize.ShloMosaic.Lib.Claim
public import Idealize.ShloMosaic.Lib.StableHlo.RunRead

@[expose] public section

noncomputable section

namespace Cert.Proof.Ring

open Cert.KernelIdeal Cert.KernelIdeal.Gen
open Idealize.ShloMosaic Idealize.ShloMosaic.TcCoe
open Idealize.SL.Sem

variable {F : FTy → Type} [FloatOps F]

/-- The word `k` at each of the sixteen places. -/
def all16 (k : BitVec 32) : IVec S16 32 := broadcastInDim S16 ![] bcast_S_S16 (constantI S_ 32 k)

/-- A negative word made `k` more, another as it is. -/
def wrapBy (k : BitVec 32) (x : IVec S16 32) : IVec S16 32 := select (cmpi .slt x (all16 0#32)) (addi x (all16 k)) x

/-- The entries that the pointers name: all but the first pointer, less one. -/
def entries (p : IVec S17 32) : IVec S16 32 :=
  wrapBy 131072#32 (subi (extractStridedSlice S16 ![1] p slices_S17_S16_1) (all16 1#32))

/-- The rows of these entries. -/
def rowsOf (n : IVec S16 32) : IVec S16 32 := addi (muli (all16 2#32) n) (all16 1#32)

/-- The order that sorts sixteen words. -/
def orderOf (r : IVec S16 32) : IVec S16 32 := (Host.sort2 S16 0 comparator_i32_i32_d0 r (iotaInDim S16 32 0)).2

/-- The words `r` in the order `o`. -/
def inOrder (r o : IVec S16 32) : IVec S16 32 :=
  Host.gather gather_S16_S16x1_S16_n_0_n_n_0_1_1 r (broadcastInDim S16x1 ![0] bcast_S16_S16x1_0 (wrapBy 16#32 o))

/-- Whether a word equals the one before it. -/
def sameAsPrev (s : IVec S16 32) : IVec S16 1 :=
  concatenate S16 0 [⟨S1, broadcastInDim S1 ![] bcast_S_S1 (constantI S_ 1 0#1)⟩,
    ⟨S15, cmpi .eq (extractStridedSlice S15 ![1] s slices_S16_S15_1) (extractStridedSlice S15 ![0] s slices_S16_S15_0)⟩]
    concatenates_S1_S15_S16_d0

/-- A word that equals the one before it made no row. -/
def firsts (s : IVec S16 32) : IVec S16 32 := select (sameAsPrev s) (all16 4294967295#32) s

/-- The entries `n` of `y`. -/
def taken (y : FVec F S131072x1 .f32) (n : IVec S16 32) : FVec F S16 .f32 :=
  Host.gather gather_S131072x1_S16x2_S16_n_01_n_n_01_1_11 y
    (concatenate S16x2 1 [⟨S16x1, broadcastInDim S16x1 ![0] bcast_S16_S16x1_0 (wrapBy 131072#32 n)⟩,
      ⟨S16x1, broadcastInDim S16x1 ![0] bcast_S16_S16x1_0 (all16 0#32)⟩] concatenates_S16x1_S16x1_S16x2_d1)

/-- The values `t` in the order `o`. -/
def takenInOrder (t : FVec F S1x16 .f32) (o : IVec S16 32) : FVec F S16 .f32 :=
  Host.gather gather_S1x16_S16x2_S16_n_01_n_n_01_1_11 t
    (concatenate S16x2 1 [⟨S16x1, broadcastInDim S16x1 ![0] bcast_S16_S16x1_0 (all16 0#32)⟩,
      ⟨S16x1, broadcastInDim S16x1 ![0] bcast_S16_S16x1_0 (wrapBy 16#32 o)⟩] concatenates_S16x1_S16x1_S16x2_d1)

/-- The table of rows that the kernel reads. -/
def rowTable (p : IVec S17 32) : IVec S1x16 32 :=
  shapeCast S1x16 (firsts (inOrder (rowsOf (entries p)) (orderOf (rowsOf (entries p))))) shapeCasts_S16_S1x16

/-- The table of entries of `y` that the kernel reads. -/
def entryTable (y : FVec F S131072x1 .f32) (p : IVec S17 32) : FVec F S1x16 .f32 :=
  shapeCast S1x16 (takenInOrder (shapeCast S1x16 (taken y (entries p)) shapeCasts_S16_S1x16) (orderOf (rowsOf (entries p)))) shapeCasts_S16_S1x16

/-! ## The host's stages, each read off the contents before it -/

variable (σ : Valuation τ sig (Elt F))

theorem after_stages (L : List (List (HloOp τ sig (Elt F)))) (l : List (HloOp τ sig (Elt F))) (b : DevRef τ sig) :
    StableHlo.after (List.flatten (l :: L)) σ b = StableHlo.after L.flatten (StableHlo.after l σ) b := by
  rw [List.flatten_cons, StableHlo.after_append]

theorem stage0 : StableHlo.after hostOps0 σ (Proc.devRef .tc main_v2)
    = subi (extractStridedSlice S16 ![1] (σ (Proc.devRef .tc main_arg1)) slices_S17_S16_1) (all16 1#32) := by
  after_results <;> rfl

theorem stage0_neg : StableHlo.after hostOps0 σ (Proc.devRef .tc main_v4)
    = cmpi .slt (subi (extractStridedSlice S16 ![1] (σ (Proc.devRef .tc main_arg1)) slices_S17_S16_1) (all16 1#32)) (all16 0#32) := by
  after_results <;> rfl

theorem stage0_up : StableHlo.after hostOps0 σ (Proc.devRef .tc main_v6)
    = addi (subi (extractStridedSlice S16 ![1] (σ (Proc.devRef .tc main_arg1)) slices_S17_S16_1) (all16 1#32)) (all16 131072#32) := by
  after_results <;> rfl

theorem stage1 : StableHlo.after hostOps0_1 σ (Proc.devRef .tc main_v7)
    = select (σ (Proc.devRef .tc main_v4)) (σ (Proc.devRef .tc main_v6)) (σ (Proc.devRef .tc main_v2)) := by
  after_results <;> rfl

theorem stage2 : StableHlo.after hostOps0_2 σ (Proc.devRef .tc main_v23) = rowsOf (σ (Proc.devRef .tc main_v7)) := by
  after_results <;> rfl

theorem stage2_taken : StableHlo.after hostOps0_2 σ (Proc.devRef .tc main_v19)
    = shapeCast S1x16 (taken (σ (Proc.devRef .tc main_arg0)) (σ (Proc.devRef .tc main_v7))) shapeCasts_S16_S1x16 := by
  after_results <;> rfl

theorem stage3 : StableHlo.after hostOps0_3 σ (Proc.devRef .tc main_v24) = orderOf (σ (Proc.devRef .tc main_v23)) := by
  after_results <;> rfl

theorem stage4 : StableHlo.after hostOps0_4 σ (Proc.devRef .tc main_v31) = inOrder (σ (Proc.devRef .tc main_v23)) (σ (Proc.devRef .tc main_v24)) := by
  after_results <;> rfl

theorem stage4_eq : StableHlo.after hostOps0_4 σ (Proc.devRef .tc main_v36) = sameAsPrev (inOrder (σ (Proc.devRef .tc main_v23)) (σ (Proc.devRef .tc main_v24))) := by
  after_results <;> rfl

theorem stage4_none : StableHlo.after hostOps0_4 σ (Proc.devRef .tc main_c_10) = constantI S_ 32 4294967295#32 := by
  after_results <;> rfl

theorem stage5 : StableHlo.after hostOps0_5 σ (Proc.devRef .tc main_v37)
    = select (σ (Proc.devRef .tc main_v36)) (broadcastInDim S16 ![] bcast_S_S16 (σ (Proc.devRef .tc main_c_10))) (σ (Proc.devRef .tc main_v31)) := by
  after_results <;> rfl

theorem stage6 : StableHlo.after hostOps0_6 σ (Proc.devRef .tc main_v38) = shapeCast S1x16 (σ (Proc.devRef .tc main_v37)) shapeCasts_S16_S1x16 := by
  after_results <;> rfl

theorem stage6_entries : StableHlo.after hostOps0_6 σ (Proc.devRef .tc main_v50)
    = shapeCast S1x16 (takenInOrder (σ (Proc.devRef .tc main_v19)) (σ (Proc.devRef .tc main_v24))) shapeCasts_S16_S1x16 := by
  after_results <;> rfl

theorem stage6_weight : StableHlo.after hostOps0_6 σ (Proc.devRef .tc main_v51)
    = shapeCast S1x128 (σ (Proc.devRef .tc main_arg3)) shapeCasts_S128x1_S1x128 := by
  after_results <;> rfl

theorem stage6_bias : StableHlo.after hostOps0_6 σ (Proc.devRef .tc main_v52)
    = shapeCast S1x128 (σ (Proc.devRef .tc main_arg4)) shapeCasts_S128_S1x128 := by
  after_results <;> rfl

/-! ## What a stage does not write it keeps -/

theorem stage0_keeps (r : Ref sig .tc) (hr : r ∉ [main_v0, main_c, main_v1, main_v2, main_c_0, main_v3, main_v4, main_c_1, main_v5, main_v6]) :
    StableHlo.after hostOps0 σ (Proc.devRef .tc r) = σ (Proc.devRef .tc r) :=
  StableHlo.after_unwritten _ rfl hr σ

theorem stage1_keeps (r : Ref sig .tc) (hr : r ∉ [main_v7]) :
    StableHlo.after hostOps0_1 σ (Proc.devRef .tc r) = σ (Proc.devRef .tc r) :=
  StableHlo.after_unwritten _ rfl hr σ

theorem stage2_keeps (r : Ref sig .tc) (hr : r ∉ [main_c_2, main_v8, main_v9, main_c_3, main_v10, main_v11, main_v12, main_c_4, main_v13, main_v14, main_v15, main_v16, main_v17, main_v18, main_v19, main_c_5, main_v20, main_v21, main_c_6, main_v22, main_v23]) :
    StableHlo.after hostOps0_2 σ (Proc.devRef .tc r) = σ (Proc.devRef .tc r) :=
  StableHlo.after_unwritten _ rfl hr σ

theorem stage3_keeps (r : Ref sig .tc) (hr : r ∉ [main_call1_v0, main_call1_v1_0, main_v24]) :
    StableHlo.after hostOps0_3 σ (Proc.devRef .tc r) = σ (Proc.devRef .tc r) :=
  StableHlo.after_unwritten _ rfl hr σ

theorem stage4_keeps (r : Ref sig .tc) (hr : r ∉ [main_c_7, main_v25, main_v26, main_c_8, main_v27, main_v28, main_v29, main_v30, main_v31, main_c_9, main_v32, main_v33, main_v34, main_v35, main_v36, main_c_10]) :
    StableHlo.after hostOps0_4 σ (Proc.devRef .tc r) = σ (Proc.devRef .tc r) :=
  StableHlo.after_unwritten _ rfl hr σ

theorem stage5_keeps (r : Ref sig .tc) (hr : r ∉ [main_call2_v0, main_call2_v1, main_v37]) :
    StableHlo.after hostOps0_5 σ (Proc.devRef .tc r) = σ (Proc.devRef .tc r) :=
  StableHlo.after_unwritten _ rfl hr σ

/-! ## The tables -/

variable (m : (ℓ : Loc nD τ sig) → Buf (Elt F) ℓ) (c : Dev nD)

theorem V_rows : V m c main_v38 = rowTable (m ((c.tc : Thread nD τ).loc main_arg1)) := by
  unfold V rowTable firsts entries wrapBy
  simp only [after_stages, List.flatten_nil, StableHlo.after_nil]
  rw [stage6, stage5, stage4, stage4_eq, stage4_none, stage3, stage3_keeps _ main_v23 (by decide), stage2, stage1, stage0, stage0_neg, stage0_up]
  rfl

theorem V_entries : V m c main_v50 = entryTable (m ((c.tc : Thread nD τ).loc main_arg0)) (m ((c.tc : Thread nD τ).loc main_arg1)) := by
  unfold V entryTable entries
  simp only [after_stages, List.flatten_nil, StableHlo.after_nil]
  rw [stage6_entries, stage5_keeps _ main_v19 (by decide), stage5_keeps _ main_v24 (by decide), stage4_keeps _ main_v19 (by decide), stage4_keeps _ main_v24 (by decide), stage3, stage3_keeps _ main_v19 (by decide), stage2, stage2_taken,
    stage1, stage1_keeps _ main_arg0 (by decide), stage0, stage0_neg, stage0_up, stage0_keeps _ main_arg0 (by decide)]
  rfl

theorem V_weight : V m c main_v51 = shapeCast S1x128 (m ((c.tc : Thread nD τ).loc main_arg3)) shapeCasts_S128x1_S1x128 := by
  unfold V
  simp only [after_stages, List.flatten_nil, StableHlo.after_nil]
  rw [stage6_weight, stage5_keeps _ main_arg3 (by decide), stage4_keeps _ main_arg3 (by decide), stage3_keeps _ main_arg3 (by decide), stage2_keeps _ main_arg3 (by decide), stage1_keeps _ main_arg3 (by decide), stage0_keeps _ main_arg3 (by decide)]

theorem V_bias : V m c main_v52 = shapeCast S1x128 (m ((c.tc : Thread nD τ).loc main_arg4)) shapeCasts_S128_S1x128 := by
  unfold V
  simp only [after_stages, List.flatten_nil, StableHlo.after_nil]
  rw [stage6_bias, stage5_keeps _ main_arg4 (by decide), stage4_keeps _ main_arg4 (by decide), stage3_keeps _ main_arg4 (by decide), stage2_keeps _ main_arg4 (by decide), stage1_keeps _ main_arg4 (by decide), stage0_keeps _ main_arg4 (by decide)]

end Cert.Proof.Ring

end
-- ==== Proof.Words.lean ====
/-
  The host's tables read at a place: entries and rows as numbers, the sorting order as a permutation of the places.
-/
module

public import proofs.«01_k».proof.Proof.Tables
public import Idealize.ShloMosaic.Lib.Routing.OpsSet
public import Idealize.ShloMosaic.Lib.Routing.OpsPair
public import Idealize.ShloMosaic.Lib.SortFacts
public import Idealize.ShloMosaic.Lib.Pointwise
public import Idealize.ShloMosaic.Lib.Pointwise.IndexBridge

@[expose] public section

noncomputable section

namespace Cert.Proof.Ring

open Cert.KernelIdeal Cert.KernelIdeal.Gen
open Idealize.ShloMosaic hiding ix0 ix1 ix2 ix3
open Idealize.ShloMosaic.ValueIdx

/-! ## Gathers of one element at a pair of start words -/

section Pairs
variable {α : Type} {N M n : ℕ}

/-- The dimension numbers of `x[i, j]`, `i` and `j` vectors of start words given as the columns of a rectangle. -/
abbrev pairDims (N M n : ℕ) (wf : GatherDims.WF ⟨2, ![N, M]⟩ ⟨2, ![n, 2]⟩ ⟨1, ![n]⟩ [] [0, 1] [] [0, 1] [] 1 ![1, 1]) :
    GatherDims ⟨2, ![N, M]⟩ ⟨2, ![n, 2]⟩ ⟨1, ![n]⟩ where
  offsetDims := []
  collapsedSliceDims := [0, 1]
  operandBatchingDims := []
  startIndicesBatchingDims := []
  startIndexMap := [0, 1]
  indexVectorDim := 1
  sliceSizes := ![1, 1]
  wf := wf

variable (wf : GatherDims.WF ⟨2, ![N, M]⟩ ⟨2, ![n, 2]⟩ ⟨1, ![n]⟩ [] [0, 1] [] [0, 1] [] 1 ![1, 1])

theorem pair_coord (idx : IVec ⟨2, ![n, 2]⟩ 32) (p : Fin n) (a : Fin 2) :
    ((pairDims N M n wf).operandIdx (ix1 p) idx a).val = min (idx (ix2 p a)).toInt.toNat ((![N, M] : Fin 2 → ℕ) a - 1) := by
  show (pairDims N M n wf).start (ix1 p) idx a + (pairDims N M n wf).batchCoord (ix1 p) a + (pairDims N M n wf).offCoord (ix1 p) a = _
  have hm : a ∈ ([0, 1] : List (Fin 2)) := by fin_cases a <;> simp
  rw [GatherDims.batchCoord_eq_zero _ _ _ List.not_mem_nil,
    GatherDims.offCoord_eq_zero _ _ _ (fun h => ((GatherDims.mem_sKept _ _).mp h).1 hm)]
  simp only [Nat.add_zero]
  unfold GatherDims.start
  rw [dif_pos (show a ∈ (pairDims N M n wf).startIndexMap from hm)]
  have hsi : (pairDims N M n wf).siIdx (ix1 p) ⟨List.idxOf a (pairDims N M n wf).startIndexMap, List.idxOf_lt_length_iff.2 hm⟩ = ix2 p a := by
    funext b; refine Fin.ext ?_
    fin_cases a <;> fin_cases b <;> rfl
  rw [hsi]
  fin_cases a <;> rfl

/-- Read where both start words are within the operand. -/
theorem gather_pair (x : (⟨2, ![N, M]⟩ : Shape).Idx → α) (idx : IVec ⟨2, ![n, 2]⟩ 32) (p : Fin n) (a : Fin N) (b : Fin M)
    (ha : (idx (ix2 p 0)).toInt = a.val) (hb : (idx (ix2 p 1)).toInt = b.val) :
    Host.gather (pairDims N M n wf) x idx (ix1 p) = x (ix2 a b) := by
  unfold Host.gather
  refine congrArg x (funext fun c => Fin.ext ?_)
  rw [pair_coord wf idx p c]
  have hN := a.isLt
  have hM := b.isLt
  fin_cases c
  · show min (idx (ix2 p 0)).toInt.toNat (N - 1) = a.val
    rw [ha]; omega
  · show min (idx (ix2 p 1)).toInt.toNat (M - 1) = b.val
    rw [hb]; omega

end Pairs

/-! ## Words at a place -/

theorem all16_at (k : BitVec 32) (i : S16.Idx) : all16 k i = k := rfl

theorem wrapBy_at (k : BitVec 32) (x : IVec S16 32) (i : S16.Idx) :
    wrapBy k x i = if (x i).toInt < 0 then x i + k else x i := by
  show (if IntOp.cmpi .slt (x i) 0#32 = 1#1 then x i + k else x i) = _
  simp only [IntOp.cmpi_slt]
  rfl

/-- A word that is not negative wraps to itself. -/
theorem wrapBy_of_nonneg (k : BitVec 32) (x : IVec S16 32) (i : S16.Idx) (h : 0 ≤ (x i).toInt) : wrapBy k x i = x i := by
  rw [wrapBy_at, if_neg (by omega)]

theorem toNat_ofNat (n : ℕ) (h : n < 2 ^ 32) : (BitVec.ofNat 32 n).toNat = n := by
  rw [BitVec.toNat_ofNat]; omega

theorem toInt_ofNat (n : ℕ) (h : n < 2 ^ 31) : (BitVec.ofNat 32 n).toInt = n := by
  rw [BitVec.toInt_eq_toNat_cond, toNat_ofNat n (by omega)]; omega

/-- A pointer less one, wrapped, is never one of the lowest numbers. -/
theorem wrap_pointer (w : BitVec 32) :
    (if w.toInt < 0 then w + 131072#32 else w).toNat < 2 ^ 31 ∨ 2 ^ 31 + 131072 ≤ (if w.toInt < 0 then w + 131072#32 else w).toNat := by
  have hw := w.isLt
  by_cases h : w.toInt < 0
  · rw [if_pos h, BitVec.toNat_add]
    rw [BitVec.toInt_eq_toNat_cond] at h
    show (w.toNat + 131072) % 2 ^ 32 < 2 ^ 31 ∨ 2 ^ 31 + 131072 ≤ (w.toNat + 131072) % 2 ^ 32
    split at h <;> omega
  · rw [if_neg h]
    rw [BitVec.toInt_eq_toNat_cond] at h
    split at h <;> omega

theorem entries_low (p : IVec S17 32) (i : S16.Idx) : (entries p i).toNat < 2 ^ 31 ∨ 2 ^ 31 + 131072 ≤ (entries p i).toNat := by
  unfold entries
  rw [wrapBy_at]
  exact wrap_pointer _

/-- The numbers that the pointers name: entries, where they are below the number of entries. -/
def named (p : IVec S17 32) (k : Fin 16) : ℕ := (entries p (ix1 k)).toNat

theorem rowsOf_toNat (n : IVec S16 32) (i : S16.Idx) : (rowsOf n i).toNat = (2 * (n i).toNat + 1) % 2 ^ 32 := by
  show (2#32 * n i + 1#32).toNat = _
  rw [BitVec.toNat_add, BitVec.toNat_mul]
  show (2 * (n i).toNat % 2 ^ 32 + 1) % 2 ^ 32 = _
  omega

/-! ## The sorting order -/

/-- The place that the sort puts at place `j`. -/
def perm (r : IVec S16 32) : Fin 16 → Fin 16 :=
  sortedFrom fun i j => decide ((r (ix1 i)).toInt < (r (ix1 j)).toInt)

theorem perm_surjective (r : IVec S16 32) : Function.Surjective (perm r) := sortedFrom_surjective _

/-- The words in that order do not fall. -/
theorem perm_sorted (r : IVec S16 32) (i j : Fin 16) (h : i < j) : (r (ix1 (perm r i))).toInt ≤ (r (ix1 (perm r j))).toInt := by
  have := sortedFrom_noInversion (fun i j => decide ((r (ix1 i)).toInt < (r (ix1 j)).toInt)) (fun i j => decide ((r (ix1 i)).toInt < (r (ix1 j)).toInt))
    (fun a b hab => by simp only [decide_eq_true_eq, decide_eq_false_iff_not] at hab ⊢; omega) (fun _ _ hab => hab)
    (fun a b c hab hbc => by simp only [decide_eq_false_iff_not] at hab hbc ⊢; omega) i j h
  simp only [decide_eq_false_iff_not] at this
  exact not_lt.1 this

theorem orderOf_at (r : IVec S16 32) (j : Fin 16) : orderOf r (ix1 j) = BitVec.ofNat 32 (perm r j).val := by
  unfold orderOf Host.sort2 perm
  have hd : 0 < S16.rank := Nat.zero_lt_one
  have e : ∀ (j : S16.Idx) (c : Fin 16), j.along (⟨0, hd⟩ : Fin S16.rank) c = ix1 c := fun j c =>
    (Shape.Idx.along_rank1 j c).trans (funext fun a => by obtain rfl : a = 0 := Subsingleton.elim _ _; rfl)
  have hR : (fun a b : Fin 16 => comparator_i32_i32_d0 (r ((ix1 j : S16.Idx).along ⟨0, hd⟩ a), iotaInDim S16 32 0 ((ix1 j : S16.Idx).along ⟨0, hd⟩ a))
      (r ((ix1 j : S16.Idx).along ⟨0, hd⟩ b), iotaInDim S16 32 0 ((ix1 j : S16.Idx).along ⟨0, hd⟩ b)) == 1#1)
      = fun a b => decide ((r (ix1 a)).toInt < (r (ix1 b)).toInt) := by
    funext a b
    rw [e, e]
    show (IntOp.cmpi .slt (r (ix1 a)) (r (ix1 b)) == 1#1) = _
    rw [Bool.eq_iff_iff, beq_iff_eq, decide_eq_true_eq, IntOp.cmpi_slt]
  rw [dif_pos hd]
  show iotaInDim S16 32 0 ((ix1 j : S16.Idx).along ⟨0, hd⟩ (sortedFrom (fun a b : Fin 16 => comparator_i32_i32_d0 (r ((ix1 j : S16.Idx).along ⟨0, hd⟩ a), iotaInDim S16 32 0 ((ix1 j : S16.Idx).along ⟨0, hd⟩ a))
      (r ((ix1 j : S16.Idx).along ⟨0, hd⟩ b), iotaInDim S16 32 0 ((ix1 j : S16.Idx).along ⟨0, hd⟩ b)) == 1#1) j)) = _
  rw [hR]
  exact (congrArg (iotaInDim S16 32 0) (e _ _)).trans rfl

theorem inOrder_at (r o : IVec S16 32) (j k : Fin 16) (h : o (ix1 j) = BitVec.ofNat 32 k.val) : inOrder r o (ix1 j) = r (ix1 k) := by
  unfold inOrder
  refine Routing.gather_take1 gather_S16_S16x1_S16_n_0_n_n_0_1_1 rfl rfl rfl rfl r _ j k ?_ (by norm_num)
  have e : broadcastInDim S16x1 ![0] bcast_S16_S16x1_0 (wrapBy 16#32 o) (ix2 j (0 : Fin 1)) = wrapBy 16#32 o (ix1 j) := by
    pointwise
    exact congrArg _ (ix1_eq_valueIdx j)
  rw [← h]
  refine e.trans (wrapBy_of_nonneg _ _ _ ?_)
  rw [h, toInt_ofNat _ (by omega)]
  omega

/-- Two columns of start words, side by side. -/
theorem columns_at (u v : IVec S16 32) (j : Fin 16) (a : Fin 2) :
    concatenate S16x2 1 [⟨S16x1, broadcastInDim S16x1 ![0] bcast_S16_S16x1_0 u⟩, ⟨S16x1, broadcastInDim S16x1 ![0] bcast_S16_S16x1_0 v⟩]
      concatenates_S16x1_S16x1_S16x2_d1 (ix2 j a) = if a = 0 then u (ix1 j) else v (ix1 j) := by
  pointwise
  fin_cases a
  · rw [dif_pos (by show 0 < 1; omega)]
    exact (congrArg u (ix1_eq_valueIdx j)).trans (if_pos rfl).symm
  · rw [dif_neg (by show ¬ 1 < 1; omega)]
    exact (congrArg v (ix1_eq_valueIdx j)).trans (if_neg (by decide : ¬ (1 : Fin 2) = 0)).symm

theorem taken_at {F : FTy → Type} [FloatOps F] (y : FVec F S131072x1 .f32) (n : IVec S16 32) (j : Fin 16) (e : Fin 131072)
    (h : (n (ix1 j)).toNat = e.val) : taken y n (ix1 j) = y (ix2 e 0) := by
  have he : (n (ix1 j)).toInt = e.val := by rw [BitVec.toInt_eq_toNat_cond, h, if_pos (by omega)]
  refine gather_pair gather_S131072x1_S16x2_S16_n_01_n_n_01_1_11.wf y _ j e 0 ?_ ?_
  · rw [columns_at, if_pos rfl, wrapBy_of_nonneg _ _ _ (by rw [he]; omega), he]
  · rw [columns_at, if_neg (by decide)]; rfl

theorem takenInOrder_at {F : FTy → Type} [FloatOps F] (t : FVec F S1x16 .f32) (o : IVec S16 32) (j k : Fin 16)
    (h : o (ix1 j) = BitVec.ofNat 32 k.val) : takenInOrder t o (ix1 j) = t (ix2 0 k) := by
  have hk : (o (ix1 j)).toInt = k.val := by rw [h, toInt_ofNat _ (by omega)]
  refine gather_pair gather_S1x16_S16x2_S16_n_01_n_n_01_1_11.wf t _ j 0 k ?_ ?_
  · rw [columns_at, if_pos rfl]; rfl
  · rw [columns_at, if_neg (by decide), wrapBy_of_nonneg _ _ _ (by rw [hk]; omega), hk]

theorem sameAsPrev_at (s : IVec S16 32) (j : Fin 16) :
    sameAsPrev s (ix1 j) = if h : j.val = 0 then 0#1 else IntOp.cmpi .eq (s (ix1 j)) (s (ix1 ⟨j.val - 1, by omega⟩)) := by
  unfold sameAsPrev
  pointwise
  by_cases h : j.val = 0
  · rw [dif_pos h, dif_pos (by show j.val < 1; omega)]
  · rw [dif_neg h, dif_neg (by show ¬ j.val < 1; omega)]
    congr 2
    congr 1
    exact Fin.ext (by show 1 + (j.val - 1) = j.val; omega)

theorem firsts_at (s : IVec S16 32) (j : Fin 16) :
    firsts s (ix1 j) = if h : j.val = 0 then s (ix1 j) else
      if s (ix1 j) = s (ix1 ⟨j.val - 1, by omega⟩) then 4294967295#32 else s (ix1 j) := by
  show (if sameAsPrev s (ix1 j) = 1#1 then 4294967295#32 else s (ix1 j)) = _
  rw [sameAsPrev_at]
  by_cases h : j.val = 0
  · rw [dif_pos h, dif_pos h]; rfl
  · rw [dif_neg h, dif_neg h]
    simp only [IntOp.cmpi_eq]

end Cert.Proof.Ring

end
-- ==== Proof.Equation.lean ====
/-
  The equation over the extended reals: taking a finite encoding back out of a row it was added to leaves the row as it
  was, so the ring's result is the graph with the encoding added to the odd rows that the table does not list.
-/
module

public import proofs.«01_k».proof.Proof.Trip
public import Idealize.ShloMosaic.Lib.IdealHost

@[expose] public section

noncomputable section

namespace Cert.Proof.Ring

open Cert.KernelIdeal Cert.KernelIdeal.Gen
open Idealize.ShloMosaic Idealize.ShloMosaic.TcCoe
open Idealize.ShloMosaic.ValueIdx

/-- The graph `G` with the encoding of `y`'s entry `i` added to row `2 i + 1`, but for the entries that `n` names. -/
def skipA (n : Fin 16 → ℕ) (Y : S131072x1.Idx → EReal) (W B : Fin 128 → EReal) (G : S262144x128.Idx → EReal) :
    S262144x128.Idx → EReal := fun i =>
  if (i 0).val % 2 = 1 ∧ ¬ ∃ k, n k = (i 0).val / 2 then
    G i + (Y (ix2 ⟨(i 0).val / 2, by have h : (i 0).val < 262144 := (i 0).isLt; omega⟩ 0) * W (i 1) + B (i 1))
  else G i

/-- The tables that the kernel reads list `n`: a place that holds a row of the graph holds a named entry's row, and the
    entry itself; every named entry's row is at some place, and no row is at two. A number past the entries names none. -/
structure Lists (n : Fin 16 → ℕ) (O : S1x16.Idx → BitVec 32) (E : S1x16.Idx → EReal) (Y : S131072x1.Idx → EReal) : Prop where
  place : ∀ j : Fin 16, (O (ix2 0 j)).toNat < 262144 →
    ∃ e : Fin 131072, (∃ k, n k = e.val) ∧ (O (ix2 0 j)).toNat = 2 * e.val + 1 ∧ E (ix2 0 j) = Y (ix2 e 0)
  found : ∀ k, n k < 131072 → ∃ j : Fin 16, (O (ix2 0 j)).toNat = 2 * n k + 1
  once : ∀ i j : Fin 16, (O (ix2 0 i)).toNat = (O (ix2 0 j)).toNat → (O (ix2 0 i)).toNat < 262144 → i = j

variable (O : S1x16.Idx → BitVec 32) (E : S1x16.Idx → EReal) (W B : S1x128.Idx → EReal)
variable (Y : S131072x1.Idx → EReal) (G : S262144x128.Idx → EReal)

theorem col_eq {j : ℕ} (hj : j < 16) : col j = ix2 0 ⟨j, hj⟩ := by
  show ix2 (n0 := 1) (n1 := 16) 0 ⟨j % 16, _⟩ = _
  congr 1; exact Fin.ext (Nat.mod_eq_of_lt hj)

theorem hit_self (r : ℕ) (v : BitVec 32) (h : v.toNat = r) : hitAt (F := Ideal) r v = (1 : EReal) := by
  unfold hitAt
  rw [if_pos h.symm]
  show (((1#32 : BitVec 32).toInt : ℝ) : EReal) = 1
  norm_num

theorem hit_other (r : ℕ) (v : BitVec 32) (h : v.toNat ≠ r) : hitAt (F := Ideal) r v = (0 : EReal) := by
  unfold hitAt
  rw [if_neg (Ne.symm h)]
  show (((0#32 : BitVec 32).toInt : ℝ) : EReal) = 0
  norm_num

theorem fix_hit (v : BitVec 32) (e : EReal) (A : S262144x128.Idx → EReal) (i : S262144x128.Idx) (h : v.toNat = (i 0).val) :
    fixA (F := Ideal) v e W B A i = A i - (e * W (ix2 0 (i 1)) + B (ix2 0 (i 1))) := by
  unfold fixA
  rw [if_pos (by rw [h]), hit_self _ _ h]
  show A i - 1 * (e * W (ix2 0 (i 1)) + B (ix2 0 (i 1))) = _
  rw [one_mul]

theorem fix_other (v : BitVec 32) (e : EReal) (A : S262144x128.Idx → EReal) (i : S262144x128.Idx) (h : v.toNat ≠ (i 0).val) :
    fixA (F := Ideal) v e W B A i = A i := by
  unfold fixA
  split
  · rw [hit_other _ _ h]
    show A i - 0 * (e * W (ix2 0 (i 1)) + B (ix2 0 (i 1))) = _
    rw [zero_mul, sub_zero]
  · rfl

/-- A row that no place holds stays; -/
theorem fixes_other (A : S262144x128.Idx → EReal) (i : S262144x128.Idx) :
    ∀ k, (∀ j, j < k → (O (col j)).toNat ≠ (i 0).val) → fixN (F := Ideal) O E W B A k i = A i
  | 0, _ => rfl
  | k + 1, h => (fix_other W B _ _ _ i (h k (Nat.lt_succ_self k))).trans
      (fixes_other A i k fun j hj => h j (Nat.lt_succ_of_lt hj))

/-- a row that one place holds loses that place's encoding, once. -/
theorem fixes_hit (A : S262144x128.Idx → EReal) (i : S262144x128.Idx) (j₀ : ℕ) (h₀ : (O (col j₀)).toNat = (i 0).val) :
    ∀ k, j₀ < k → (∀ j, j < k → j ≠ j₀ → (O (col j)).toNat ≠ (i 0).val) →
      fixN (F := Ideal) O E W B A k i = A i - (E (col j₀) * W (ix2 0 (i 1)) + B (ix2 0 (i 1)))
  | 0, h, _ => absurd h (Nat.not_lt_zero _)
  | k + 1, h, hk => by
    by_cases hj : j₀ = k
    · subst hj
      refine (fix_hit W B _ _ _ i h₀).trans ?_
      rw [fixes_other O E W B A i j₀ fun j hj => hk j (Nat.lt_succ_of_lt hj) (Nat.ne_of_lt hj)]
    · exact (fix_other W B _ _ _ i (hk k (Nat.lt_succ_self k) (Ne.symm hj))).trans
        (fixes_hit A i j₀ h₀ k (by omega) fun j hj' => hk j (Nat.lt_succ_of_lt hj'))

theorem add_sub_self (g e : EReal) (h1 : e ≠ ⊤) (h2 : e ≠ ⊥) : g + e - e = g := by
  lift e to ℝ using ⟨h1, h2⟩
  exact EReal.add_sub_cancel_right

/-- A finite times a finite, plus a finite, is finite. -/
theorem enc_finite (y w b : EReal) (hy : y ≠ ⊤ ∧ y ≠ ⊥) (hw : w ≠ ⊤ ∧ w ≠ ⊥) (hb : b ≠ ⊤ ∧ b ≠ ⊥) :
    y * w + b ≠ ⊤ ∧ y * w + b ≠ ⊥ := by
  lift y to ℝ using hy
  lift w to ℝ using hw
  lift b to ℝ using hb
  exact ⟨EReal.coe_ne_top (y * w + b), EReal.coe_ne_bot (y * w + b)⟩

theorem resA_eq (n : Fin 16 → ℕ) (h : Lists n O E Y) (hY : ∀ i, Y i ≠ ⊤ ∧ Y i ≠ ⊥) (hW : ∀ i, W i ≠ ⊤ ∧ W i ≠ ⊥)
    (hB : ∀ i, B i ≠ ⊤ ∧ B i ≠ ⊥) :
    resA (F := Ideal) O E W B Y G = skipA n Y (fun q => W (ix2 0 q)) (fun q => B (ix2 0 q)) G := by
  funext i
  have hi : (i 0).val < 262144 := (i 0).isLt
  unfold resA skipA
  by_cases hex : (i 0).val % 2 = 1 ∧ ∃ k, n k = (i 0).val / 2
  · obtain ⟨hodd, k, hk⟩ := hex
    obtain ⟨j, hj⟩ := h.found k (by omega)
    have hji : (O (col j.val)).toNat = (i 0).val := by rw [col_eq j.isLt, hj]; omega
    rw [fixes_hit O E W B _ i j.val hji 16 j.isLt fun j' hj' hne hit => hne (by
      rw [col_eq hj'] at hit
      rw [col_eq j.isLt] at hji
      exact congrArg Fin.val (h.once ⟨j', hj'⟩ j (hit.trans hji.symm) (by omega)))]
    rw [if_neg fun hn => hn.2 ⟨k, hk⟩]
    have hE : E (col j.val) = Y (ix2 ⟨(i 0).val / 2, by omega⟩ 0) := by
      rw [col_eq j.isLt]
      obtain ⟨e, -, he, hy⟩ := h.place j (by omega)
      refine hy.trans (congrArg (fun t => Y (ix2 t 0)) (Fin.ext ?_))
      show e.val = (i 0).val / 2
      omega
    rw [hE]
    unfold addA
    rw [if_pos hodd]
    obtain ⟨f1, f2⟩ := enc_finite _ _ _ (hY (ix2 ⟨(i 0).val / 2, by omega⟩ 0)) (hW (ix2 0 (i 1))) (hB (ix2 0 (i 1)))
    exact add_sub_self (G i) _ f1 f2
  · rw [fixes_other O E W B _ i 16 fun j hj hit => by
      rw [col_eq hj] at hit
      obtain ⟨e, ⟨k, hk⟩, he, -⟩ := h.place ⟨j, hj⟩ (by omega)
      exact hex ⟨by omega, k, by omega⟩]
    unfold addA
    by_cases hodd : (i 0).val % 2 = 1
    · rw [if_pos hodd, if_pos ⟨hodd, fun hk => hex ⟨hodd, hk⟩⟩]; rfl
    · rw [if_neg hodd, if_neg fun hn => hodd hn.1]

end Cert.Proof.Ring

end
-- ==== Proof.Listed.lean ====
/-
  The two tables that the kernel reads list the entries that the pointers name.
-/
module

public import proofs.«01_k».proof.Proof.Words
public import proofs.«01_k».proof.Proof.Equation

@[expose] public section

noncomputable section

namespace Cert.Proof.Ring

open Cert.KernelIdeal Cert.KernelIdeal.Gen
open Idealize.ShloMosaic hiding ix0 ix1 ix2 ix3
open Idealize.ShloMosaic.ValueIdx

variable (p : IVec S17 32)

/-- The place whose row the sort puts at place `j`. -/
def source (j : Fin 16) : Fin 16 := perm (rowsOf (entries p)) j

/-- The row at place `j` of the sorted order, as a word. -/
def sortedRow (j : Fin 16) : BitVec 32 := rowsOf (entries p) (ix1 (source p j))

/-- The sorted rows, before the repeated ones are struck. -/
theorem sorted_at (j : Fin 16) : inOrder (rowsOf (entries p)) (orderOf (rowsOf (entries p))) (ix1 j) = sortedRow p j :=
  inOrder_at _ _ j _ (orderOf_at _ j)

theorem sortedRow_mono (i j : Fin 16) (hij : i ≤ j) : (sortedRow p i).toInt ≤ (sortedRow p j).toInt := by
  rcases eq_or_lt_of_le hij with rfl | hlt
  · exact le_refl _
  · exact perm_sorted (rowsOf (entries p)) i j hlt

/-- A sorted row within the graph is the row of the entry that its place names. -/
theorem sortedRow_entry (j : Fin 16) (hj : (sortedRow p j).toNat < 262144) :
    named p (source p j) < 131072 ∧ (sortedRow p j).toNat = 2 * named p (source p j) + 1 := by
  have h1 := entries_low p (ix1 (source p j))
  have h2 := rowsOf_toNat (entries p) (ix1 (source p j))
  unfold sortedRow at hj ⊢
  unfold named
  omega

/-- The row of a named entry. -/
theorem sortedRow_of (j : Fin 16) (hj : named p (source p j) < 131072) : (sortedRow p j).toNat = 2 * named p (source p j) + 1 := by
  have h2 := rowsOf_toNat (entries p) (ix1 (source p j))
  unfold sortedRow
  unfold named at hj ⊢
  omega

theorem rowTable_at (j : Fin 16) : rowTable p (ix2 0 j) =
    if _ : j.val = 0 then sortedRow p j else
      if sortedRow p j = sortedRow p ⟨j.val - 1, by omega⟩ then 4294967295#32 else sortedRow p j := by
  unfold rowTable
  refine (shapeCast_a_1a_apply _ _ 0 j).trans ?_
  rw [firsts_at]
  simp only [sorted_at]

theorem entryTable_at {F : FTy → Type} [FloatOps F] (y : FVec F S131072x1 .f32) (j : Fin 16) (e : Fin 131072)
    (he : named p (source p j) = e.val) : entryTable y p (ix2 0 j) = y (ix2 e 0) := by
  unfold entryTable
  refine (shapeCast_a_1a_apply _ _ 0 j).trans ?_
  rw [takenInOrder_at _ _ j _ (orderOf_at _ j)]
  refine (shapeCast_a_1a_apply _ _ 0 _).trans ?_
  exact taken_at y _ _ e he

/-- A place that holds a row of the graph holds its sorted row, which differs from those before it. -/
theorem rowTable_row (j : Fin 16) (hj : (rowTable p (ix2 0 j)).toNat < 262144) :
    rowTable p (ix2 0 j) = sortedRow p j ∧ ∀ i : Fin 16, i < j → sortedRow p i ≠ sortedRow p j := by
  rw [rowTable_at] at hj ⊢
  by_cases h0 : j.val = 0
  · rw [dif_pos h0]
    exact ⟨rfl, fun i hi => absurd (Fin.lt_def.1 hi) (by omega)⟩
  · rw [dif_neg h0] at hj ⊢
    by_cases hs : sortedRow p j = sortedRow p ⟨j.val - 1, by omega⟩
    · rw [if_pos hs] at hj
      exact absurd hj (by decide)
    · rw [if_neg hs]
      refine ⟨rfl, fun i hi he => hs ?_⟩
      have h1 := sortedRow_mono p i ⟨j.val - 1, by omega⟩ (Fin.le_def.2 (by have := Fin.lt_def.1 hi; show i.val ≤ j.val - 1; omega))
      have h2 := sortedRow_mono p ⟨j.val - 1, by omega⟩ j (Fin.le_def.2 (by show j.val - 1 ≤ j.val; omega))
      rw [he] at h1
      exact BitVec.eq_of_toInt_eq (by omega)

/-- The first place of a row holds it. -/
theorem rowTable_first (j : Fin 16) (hj : ∀ i : Fin 16, i < j → sortedRow p i ≠ sortedRow p j) :
    rowTable p (ix2 0 j) = sortedRow p j := by
  rw [rowTable_at]
  by_cases h0 : j.val = 0
  · rw [dif_pos h0]
  · rw [dif_neg h0, if_neg fun hs => hj ⟨j.val - 1, by omega⟩ (Fin.lt_def.2 (by show j.val - 1 < j.val; omega)) hs.symm]

theorem lists (Y : FVec Ideal S131072x1 .f32) : Lists (named p) (rowTable p) (entryTable Y p) Y where
  place j hj := by
    have h1 := (rowTable_row p j hj).1
    rw [h1] at hj ⊢
    obtain ⟨hn, hr⟩ := sortedRow_entry p j hj
    exact ⟨⟨named p (source p j), hn⟩, ⟨_, rfl⟩, hr, entryTable_at p Y j _ rfl⟩
  found k hk := by
    obtain ⟨j, rfl⟩ := perm_surjective (rowsOf (entries p)) k
    obtain ⟨i, hi, hmin⟩ := WellFounded.has_min (wellFounded_lt (α := Fin 16)) {i | sortedRow p i = sortedRow p j} ⟨j, rfl⟩
    refine ⟨i, ?_⟩
    rw [rowTable_first p i fun i' hlt he => hmin i' (he.trans hi) hlt, hi]
    exact sortedRow_of p j hk
  once i j hij hi := by
    obtain ⟨ei, ni⟩ := rowTable_row p i hi
    obtain ⟨ej, nj⟩ := rowTable_row p j (hij ▸ hi)
    have he : sortedRow p i = sortedRow p j := by rw [← ei, ← ej]; exact BitVec.eq_of_toNat_eq hij
    rcases lt_trichotomy i j with hlt | heq | hlt
    · exact absurd he (nj i hlt)
    · exact heq
    · exact absurd he.symm (ni j hlt)

end Cert.Proof.Ring

end
-- ==== Proof.Scatters.lean ====
/-
  Two scatters read at one entry: one that replaces whole rows of a matrix, and one that adds a matrix into one plane of
  an array of three axes. Nothing here names a program.
-/
module

public import Idealize.ShloMosaic.Lib.Routing.OpsSet
public import Idealize.ShloMosaic.Lib.Routing.OpsPair
public import Idealize.ShloMosaic.Lib.Routing.OpsOrder

@[expose] public section

noncomputable section

namespace Cert.Proof.Ring

open Idealize.ShloMosaic
open Idealize.ShloMosaic.ValueIdx

/-- The dimension numbers of `x.at[idx].set(u)`: `K` rows of an `[R, C]` matrix are replaced. -/
def rowDims (R C K : Nat) (wf : ScatterDims.WF ⟨2, ![R, C]⟩ ⟨2, ![K, 1]⟩ ⟨2, ![K, C]⟩ [1] [0] [0] 1) :
    ScatterDims ⟨2, ![R, C]⟩ ⟨2, ![K, 1]⟩ ⟨2, ![K, C]⟩ where
  updateWindowDims := [1]
  insertedWindowDims := [0]
  scatterDimsToOperandDims := [0]
  indexVectorDim := 1
  wf := wf

/-- The dimension numbers of `x.at[:, r, :].add(u)` over an `[N, M, C]` array. -/
def planeDims (N M C : Nat) (wf : ScatterDims.WF ⟨3, ![N, M, C]⟩ ⟨1, ![1]⟩ ⟨2, ![N, C]⟩ [0, 1] [1] [1] 0) :
    ScatterDims ⟨3, ![N, M, C]⟩ ⟨1, ![1]⟩ ⟨2, ![N, C]⟩ where
  updateWindowDims := [0, 1]
  insertedWindowDims := [1]
  scatterDimsToOperandDims := [1]
  indexVectorDim := 0
  wf := wf

variable {R C K N M : Nat}

/-- Entry `(k, q')` of the update goes to row `idx k`, column `q'`. -/
theorem row_lands (wf : ScatterDims.WF ⟨2, ![R, C]⟩ ⟨2, ![K, 1]⟩ ⟨2, ![K, C]⟩ [1] [0] [0] 1) (idx : IVec ⟨2, ![K, 1]⟩ 32)
    (k : Fin K) (q' : Fin C) (e : Fin R) (q : Fin C) :
    (rowDims R C K wf).resultIdx? (ix2 k q') idx = some (ix2 e q) ↔ (idx (ix2 k 0)).toInt = e.val ∧ q' = q := by
  have hs : (rowDims R C K wf).siIdx (ix2 k q') ⟨0, Nat.one_pos⟩ = ix2 k 0 := by
    funext b
    match b with
    | ⟨0, _⟩ => rfl
    | ⟨1, _⟩ => rfl
  have h0 : (rowDims R C K wf).start (ix2 k q') idx 0 = (idx (ix2 k 0)).toInt :=
    congrArg (fun i => (idx i).toInt) hs
  have h1 : (rowDims R C K wf).start (ix2 k q') idx 1 = 0 := rfl
  have w0 : (rowDims R C K wf).window (ix2 k q') 0 = 0 := rfl
  have w1 : (rowDims R C K wf).window (ix2 k q') 1 = q'.val := rfl
  refine (Routing.resultIdx?_ix2 (rowDims R C K wf) (ix2 k q') idx e q).trans ?_
  rw [h0, h1, w0, w1, Fin.ext_iff]
  omega

/-- Entry `(i', q')` of the update goes to entry `(i', idx, q')`. -/
theorem plane_lands (wf : ScatterDims.WF ⟨3, ![N, M, C]⟩ ⟨1, ![1]⟩ ⟨2, ![N, C]⟩ [0, 1] [1] [1] 0) (idx : IVec ⟨1, ![1]⟩ 32)
    (i' : Fin N) (q' : Fin C) (i : Fin N) (r : Fin M) (q : Fin C) :
    (planeDims N M C wf).resultIdx? (ix2 i' q') idx = some (ix3 i r q) ↔ i' = i ∧ (idx (ix1 0)).toInt = r.val ∧ q' = q := by
  have hs : (planeDims N M C wf).siIdx (ix2 i' q') ⟨0, Nat.one_pos⟩ = ix1 0 := by
    funext b
    match b with
    | ⟨0, _⟩ => rfl
  have h0 : (planeDims N M C wf).start (ix2 i' q') idx 0 = 0 := rfl
  have h1 : (planeDims N M C wf).start (ix2 i' q') idx 1 = (idx (ix1 0)).toInt :=
    congrArg (fun i => (idx i).toInt) hs
  have h2 : (planeDims N M C wf).start (ix2 i' q') idx 2 = 0 := rfl
  have w0 : (planeDims N M C wf).window (ix2 i' q') 0 = i'.val := rfl
  have w1 : (planeDims N M C wf).window (ix2 i' q') 1 = 0 := rfl
  have w2 : (planeDims N M C wf).window (ix2 i' q') 2 = q'.val := rfl
  rw [Routing.resultIdx?_eq_some, Fin.ext_iff, Fin.ext_iff]
  constructor
  · intro h
    have a0 : (planeDims N M C wf).start (ix2 i' q') idx 0 + ((planeDims N M C wf).window (ix2 i' q') 0 : Int) = (i.val : Int) := h 0
    have a1 : (planeDims N M C wf).start (ix2 i' q') idx 1 + ((planeDims N M C wf).window (ix2 i' q') 1 : Int) = (r.val : Int) := h 1
    have a2 : (planeDims N M C wf).start (ix2 i' q') idx 2 + ((planeDims N M C wf).window (ix2 i' q') 2 : Int) = (q.val : Int) := h 2
    rw [h0, w0] at a0
    rw [h1, w1] at a1
    rw [h2, w2] at a2
    omega
  · rintro ⟨e0, e1, e2⟩ a
    match a with
    | ⟨0, _⟩ =>
      refine (congrArg₂ (fun (x : Int) (y : Nat) => x + (y : Int)) h0 w0).trans ?_
      show (0 : Int) + (i'.val : Int) = (i.val : Int)
      omega
    | ⟨1, _⟩ =>
      refine (congrArg₂ (fun (x : Int) (y : Nat) => x + (y : Int)) h1 w1).trans ?_
      show (idx (ix1 0)).toInt + ((0 : Nat) : Int) = (r.val : Int)
      omega
    | ⟨2, _⟩ =>
      refine (congrArg₂ (fun (x : Int) (y : Nat) => x + (y : Int)) h2 w2).trans ?_
      show (0 : Int) + (q'.val : Int) = (q.val : Int)
      omega

/-- A fold that changes the accumulator at exactly one member of a list without repetitions. -/
theorem foldl_once {α β : Type} (L : List β) (hL : L.Nodup) (P : β → Prop) [DecidablePred P] (f : α → β → α) (b : β) (hb : b ∈ L) (hP : P b)
    (h1 : ∀ b' ∈ L, P b' → b' = b) (x : α) : L.foldl (fun a n => if P n then f a n else a) x = f x b := by
  have none : ∀ (l : List β), (∀ b' ∈ l, ¬ P b') → ∀ x : α, l.foldl (fun a n => if P n then f a n else a) x = x := by
    intro l
    induction l with
    | nil => intro _ x; rfl
    | cons n l ih =>
      intro h x
      rw [List.foldl_cons, if_neg (h n List.mem_cons_self)]
      exact ih (fun b' hb' => h b' (List.mem_cons_of_mem _ hb')) x
  induction L generalizing x with
  | nil => exact absurd hb List.not_mem_nil
  | cons n l ih =>
    rw [List.foldl_cons]
    by_cases hn : P n
    · obtain rfl := h1 n List.mem_cons_self hn
      rw [if_pos hn]
      exact none l (fun b' hb' hb'' => (List.nodup_cons.1 hL).1 (h1 b' (List.mem_cons_of_mem _ hb') hb'' ▸ hb')) _
    · rw [if_neg hn]
      refine ih (List.nodup_cons.1 hL).2 ((List.mem_cons.1 hb).resolve_left fun he => hn (he ▸ hP)) (fun b' hb' => h1 b' (List.mem_cons_of_mem _ hb')) x

/-- A scatter read at an entry where exactly one update lands. -/
theorem scatter_once {α : Type} {s si u : Shape} {w : Nat} (d : ScatterDims s si u) (f : α → α → α) (x : s.Idx → α) (idx : IVec si w)
    (upd : u.Idx → α) (ι : s.Idx) (k : u.Idx) (hk : d.resultIdx? k idx = some ι) (h1 : ∀ k', d.resultIdx? k' idx = some ι → k' = k) :
    Host.scatter d f x idx upd ι = f (x ι) (upd k) := by
  rw [← Routing.scatterIn_finRange, Routing.scatterIn_at]
  refine (foldl_once _ (List.nodup_finRange _) (fun n => d.resultIdx? (u.rowMajor.symm n) idx = some ι) (fun a n => f a (upd (u.rowMajor.symm n)))
    (u.rowMajor k) (List.mem_finRange _) ?_ (fun n _ hn => ?_) _).trans ?_
  · rw [Equiv.symm_apply_apply]; exact hk
  · rw [← h1 _ hn, Equiv.apply_symm_apply]
  · rw [Equiv.symm_apply_apply]

/-- A scatter read at an entry where no update lands. -/
theorem scatter_none {α : Type} {s si u : Shape} {w : Nat} (d : ScatterDims s si u) (f : α → α → α) (x : s.Idx → α) (idx : IVec si w)
    (upd : u.Idx → α) (ι : s.Idx) (h : ∀ k, d.resultIdx? k idx ≠ some ι) : Host.scatter d f x idx upd ι = x ι := by
  rw [← Routing.scatterIn_finRange, Routing.scatterIn_at]
  induction List.finRange u.numel with
  | nil => rfl
  | cons n l ih => rw [List.foldl_cons, if_neg (h _)]; exact ih

/-- Rows replaced by one constant. An index that is no row replaces none. -/
theorem scatter_rows {α : Type} (wf : ScatterDims.WF ⟨2, ![R, C]⟩ ⟨2, ![K, 1]⟩ ⟨2, ![K, C]⟩ [1] [0] [0] 1) (x : (⟨2, ![R, C]⟩ : Shape).Idx → α)
    (idx : IVec ⟨2, ![K, 1]⟩ 32) (upd : (⟨2, ![K, C]⟩ : Shape).Idx → α) (v : α) (hv : ∀ k, upd k = v) (e : Fin R) (q : Fin C)
    [Decidable (∃ k : Fin K, (idx (ix2 k 0)).toInt = e.val)] :
    Host.scatter (rowDims R C K wf) (fun _ b => b) x idx upd (ix2 e q) = if ∃ k : Fin K, (idx (ix2 k 0)).toInt = e.val then v else x (ix2 e q) := by
  by_cases h : ∃ k : Fin K, (idx (ix2 k 0)).toInt = e.val
  · rw [if_pos h]
    obtain ⟨k, hk⟩ := h
    exact Routing.scatter_set_hit _ x idx upd _ v (fun k _ => hv k) (ix2 k q) ((row_lands wf idx k q _ q).2 ⟨hk, rfl⟩)
  · rw [if_neg h]
    refine Routing.scatter_set_miss _ x idx upd _ fun k hk => h ?_
    obtain ⟨a, b, rfl⟩ : ∃ a b, k = ix2 a b := ⟨k 0, k 1, eq_ix2 k⟩
    exact ⟨a, ((row_lands wf idx a b e q).1 hk).1⟩

/-- One plane of an array, with a matrix added. -/
theorem scatter_plane {α : Type} (wf : ScatterDims.WF ⟨3, ![N, M, C]⟩ ⟨1, ![1]⟩ ⟨2, ![N, C]⟩ [0, 1] [1] [1] 0) (f : α → α → α)
    (x : (⟨3, ![N, M, C]⟩ : Shape).Idx → α) (idx : IVec ⟨1, ![1]⟩ 32) (upd : (⟨2, ![N, C]⟩ : Shape).Idx → α) (p : Fin M)
    (hp : (idx (ix1 0)).toInt = p.val) (i : Fin N) (r : Fin M) (q : Fin C) :
    Host.scatter (planeDims N M C wf) f x idx upd (ix3 i r q) = if r = p then f (x (ix3 i r q)) (upd (ix2 i q)) else x (ix3 i r q) := by
  by_cases h : r = p
  · subst h
    rw [if_pos rfl]
    refine scatter_once _ f x idx upd _ (ix2 i q) ((plane_lands wf idx i q i r q).2 ⟨rfl, hp, rfl⟩) fun k' hk' => ?_
    obtain ⟨a, b, rfl⟩ : ∃ a b, k' = ix2 a b := ⟨k' 0, k' 1, eq_ix2 k'⟩
    obtain ⟨h1, -, h2⟩ := (plane_lands wf idx a b i r q).1 hk'
    rw [h1, h2]
  · rw [if_neg h]
    refine scatter_none _ f x idx upd _ fun k' hk' => h ?_
    obtain ⟨a, b, rfl⟩ : ∃ a b, k' = ix2 a b := ⟨k' 0, k' 1, eq_ix2 k'⟩
    have := ((plane_lands wf idx a b i r q).1 hk').2.1
    rw [hp] at this
    exact Fin.ext (by omega)

end Cert.Proof.Ring

end
-- ==== Proof.Reference.lean ====
/-
  What the reference computes: every odd row of the graph gets its entry's row, but for the entries that the pointers name.
-/
module

public import proofs.«01_k».proof.Proof.Gen.ReferenceIdeal.Run
public import proofs.«01_k».proof.Proof.Scatters
public import proofs.«01_k».proof.Proof.Words
public import proofs.«01_k».proof.Proof.Equation
public import Idealize.ShloMosaic.Lib.Pointwise
public import Idealize.ShloMosaic.Lib.Pointwise.IndexBridge
public import Idealize.ShloMosaic.Lib.IdealHost

@[expose] public section

noncomputable section

namespace Cert.Proof.Ring

open Cert.ReferenceIdeal Cert.ReferenceIdeal.Gen
open Idealize.ShloMosaic hiding ix0 ix1 ix2 ix3
open Idealize.ShloMosaic.ValueIdx

/-- The reference's table of encodings, before any row of it is cleared. -/
def encodings (y : FVec Ideal S131072x1 .f32) (w : FVec Ideal S128x1 .f32) (b : FVec Ideal S128 .f32) : FVec Ideal S131072x128 .f32 :=
  addf (Host.dotGeneral dot_S131072x1_S1x128_S131072x128_1_0_0_1_n_n none y (transpose S1x128 [1, 0] w transposes_S128x1_S1x128_1_0))
    (broadcastInDim S131072x128 ![0, 1] bcast_S1x128_S131072x128_0_1 (broadcastInDim S1x128 ![1] bcast_S128_S1x128_1 b))

/-- The rows that the reference clears, as one column of words. -/
def cleared (p : IVec S17 32) : IVec S16x1 32 :=
  broadcastInDim S16x1 ![0] bcast_S16_S16x1_0 (entries p)

/-- The table with those rows cleared. -/
def kept (y : FVec Ideal S131072x1 .f32) (p : IVec S17 32) (w : FVec Ideal S128x1 .f32) (b : FVec Ideal S128 .f32) : FVec Ideal S131072x128 .f32 :=
  Host.scatter scatter_S131072x128_S16x1_S16x128_1_0_0_1 (fun _ v => v) (encodings y w b) (cleared p)
    (broadcastInDim S16x128 ![] bcast_S_S16x128 (constant (F := Ideal) S_ .f32 0x00000000#32))

/-- The reference's result. -/
def expected (y : FVec Ideal S131072x1 .f32) (p : IVec S17 32) (g : FVec Ideal S262144x128 .f32) (w : FVec Ideal S128x1 .f32)
    (b : FVec Ideal S128 .f32) : FVec Ideal S262144x128 .f32 :=
  shapeCast S262144x128
    (Host.scatter scatter_S131072x2x128_S1_S131072x128_01_1_1_0 FloatOps.addf (shapeCast S131072x2x128 g shapeCasts_S262144x128_S131072x2x128)
      (broadcastInDim S1 ![] bcast_S_S1 (constantI S_ 32 1#32)) (kept y p w b)) shapeCasts_S131072x2x128_S262144x128

theorem encodings_at (y : FVec Ideal S131072x1 .f32) (w : FVec Ideal S128x1 .f32) (b : FVec Ideal S128 .f32) (e : Fin 131072) (q : Fin 128) :
    encodings y w b (ix2 e q) = y (ix2 e 0) * w (ix2 q 0) + b (ix1 q) := by
  unfold encodings
  pointwise
  rw [Fin.sum_univ_one]
  exact congrArg₂ (· + ·) (congrArg₂ (· * ·) (congrArg y (ix2_eq_valueIdx e 0)) (congrArg w (ix2_eq_valueIdx q 0))) (congrArg b (ix1_eq_valueIdx q))

variable (p : IVec S17 32)

theorem cleared_at (k : Fin 16) : cleared p (ix2 k 0) = entries p (ix1 k) := by
  unfold cleared
  pointwise
  exact congrArg (entries p) (ix1_eq_valueIdx k)

/-- The words that clear entry `e` are those that name it. -/
theorem cleared_iff (e : Fin 131072) : (∃ k : Fin 16, (cleared p (ix2 k 0)).toInt = e.val) ↔ ∃ k, named p k = e.val := by
  refine exists_congr fun k => ?_
  rw [cleared_at]
  unfold named
  have he := e.isLt
  rw [BitVec.toInt_eq_toNat_cond]
  have := (entries p (ix1 k)).isLt
  split <;> omega

theorem kept_at (y : FVec Ideal S131072x1 .f32) (w : FVec Ideal S128x1 .f32) (b : FVec Ideal S128 .f32) (e : Fin 131072) (q : Fin 128)
    [Decidable (∃ k, named p k = e.val)] :
    kept y p w b (ix2 e q) = if ∃ k, named p k = e.val then 0 else y (ix2 e 0) * w (ix2 q 0) + b (ix1 q) := by
  classical
  unfold kept
  refine (scatter_rows scatter_S131072x128_S16x1_S16x128_1_0_0_1_wf (encodings y w b) (cleared p) _ 0 (fun k => ?_) e q).trans ?_
  · show (FloatOps.ofBits FTy.f32 0x00000000#32 : Ideal .f32) = 0
    exact Ideal.ofBits_zero_f32
  · rw [encodings_at]
    simp only [cleared_iff]

/-- The reference adds to every odd row but those that the pointers name. -/
theorem expected_eq (y : FVec Ideal S131072x1 .f32) (g : FVec Ideal S262144x128 .f32) (w : FVec Ideal S128x1 .f32) (b : FVec Ideal S128 .f32) :
    expected y p g w b = skipA (named p) y (fun q => w (ix2 q 0)) (fun q => b (ix1 q)) g := by
  funext i
  have hi : (i 0).val < 262144 := (i 0).isLt
  have hg : ∀ r : Fin 2, r.val = (i 0).val % 2 →
      shapeCast S131072x2x128 g shapeCasts_S262144x128_S131072x2x128 (ix3 ⟨(i 0).val / 2, by omega⟩ r (i 1)) = g i := by
    intro r hr
    pointwise
    refine congrArg g ?_
    refine ((ix2_eq_valueIdx _ _).trans (congrArg₂ ix2 (Fin.ext ?_) rfl)).trans (ValueIdx.eq_ix2 i).symm
    show (i 0).val / 2 * 2 + r.val = (i 0).val
    omega
  have hx : expected y p g w b i
      = Host.scatter scatter_S131072x2x128_S1_S131072x128_01_1_1_0 FloatOps.addf (shapeCast S131072x2x128 g shapeCasts_S262144x128_S131072x2x128)
          (broadcastInDim S1 ![] bcast_S_S1 (constantI S_ 32 1#32)) (kept y p w b)
          (ix3 ⟨(i 0).val / 2, by omega⟩ ⟨(i 0).val % 2, by omega⟩ (i 1)) := by
    unfold expected
    pointwise
    exact congrArg _ (ix3_eq_valueIdx _ _ _)
  rw [hx]
  classical
  refine (scatter_plane scatter_S131072x2x128_S1_S131072x128_01_1_1_0_wf _ _ _ _ 1 rfl _ _ _).trans ?_
  rw [hg _ rfl]
  have hk := kept_at p y w b ⟨(i 0).val / 2, by omega⟩ (i 1)
  unfold skipA
  by_cases h1 : (i 0).val % 2 = 1
  · rw [if_pos (Fin.ext h1)]
    by_cases h2 : ∃ k, named p k = (i 0).val / 2
    · rw [if_neg fun hn => hn.2 h2]
      refine (congrArg (FloatOps.addf (g i)) (hk.trans (if_pos ?_))).trans (add_zero (g i))
      exact h2
    · rw [if_pos ⟨h1, h2⟩]
      refine congrArg (FloatOps.addf (g i)) (hk.trans (if_neg ?_))
      exact h2
  · rw [if_neg fun he => h1 (congrArg Fin.val he), if_neg fun hn => h1 hn.1]

end Cert.Proof.Ring

end
-- ==== Proof.Value.lean ====
/-
  The kernel and the reference compute the same array.
-/
module

public import proofs.«01_k».proof.Defs
public import proofs.«01_k».proof.Proof.Run
public import proofs.«01_k».proof.Proof.Fit
public import proofs.«01_k».proof.Proof.Listed
public import proofs.«01_k».proof.Proof.Reference

@[expose] public section

noncomputable section

namespace Cert.Proof.Ring

open Cert.KernelIdeal Cert.KernelIdeal.Gen
open Idealize.ShloMosaic hiding ix0 ix1 ix2 ix3
open Idealize.ShloMosaic.TcCoe Idealize.SL.Sem
open Idealize.ShloMosaic.ValueIdx

theorem weight_at (w : FVec Ideal S128x1 .f32) (q : Fin 128) : shapeCast S1x128 w shapeCasts_S128x1_S1x128 (ix2 0 q) = w (ix2 q 0) := by
  pointwise
  exact congrArg w (ix2_eq_valueIdx q 0)

theorem bias_at (b : FVec Ideal S128 .f32) (q : Fin 128) : shapeCast S1x128 b shapeCasts_S128_S1x128 (ix2 0 q) = b (ix1 q) :=
  shapeCast_a_1a_apply b _ 0 q

/-- A property of every entry is a property of every entry of the same array in another shape. -/
theorem forall_cast {s t : Shape} {α : Type} {P : α → Prop} (x : s.Idx → α) (h : s.ShapeCasts t) (hx : ∀ i, P (x i)) (j : t.Idx) :
    P (shapeCast t x h j) := hx _

/-- The kernel's result is the reference's, of the same arguments, when these fit. -/
theorem result_eq (m : (ℓ : Loc nD τ sig) → Buf (Elt Ideal) ℓ) (c : Dev nD)
    (hfit : Cert.Pre_inputs_fit.fn (F := Ideal) (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) = fun _ => 1#1) :
    result (V m) c = expected (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4)) := by
  obtain ⟨hy, hw, hb⟩ := fit_decode _ _ _ _ _ hfit
  unfold result
  rw [V_rows, V_entries, V_weight, V_bias, V_main_arg0, V_main_arg2]
  refine (resA_eq _ _ _ _ _ _ (named (m ((c.tc : Thread nD τ).loc main_arg1))) (lists _ _) hy
    (forall_cast (P := fun x => x ≠ ⊤ ∧ x ≠ ⊥) _ shapeCasts_S128x1_S1x128 hw)
    (forall_cast (P := fun x => x ≠ ⊤ ∧ x ≠ ⊥) _ shapeCasts_S128_S1x128 hb)).trans ?_
  refine Eq.trans ?_ (expected_eq _ _ _ _ _).symm
  exact congrArg₂ (fun W B => skipA (named (m ((c.tc : Thread nD τ).loc main_arg1))) (m ((c.tc : Thread nD τ).loc main_arg0)) W B
    (m ((c.tc : Thread nD τ).loc main_arg2))) (funext fun q => weight_at _ q) (funext fun q => bias_at _ q)

theorem algebraic : Cert.algebraic_KernelIdeal_ReferenceIdeal_pre_inputs_fit := by
  intro m g m' g' hpre hargs
  refine ⟨fun c => result (V m) c, (θ_run _ _ _).monotone (fun r h => h.1) (run m g),
    (θ_run _ _ _).monotone (fun r h c => ⟨(h c).1.trans ?_, (h c).2⟩) (Cert.ReferenceIdeal.Value.run m' g')⟩
  obtain ⟨h0, h1, h2, h3, h4⟩ := hargs c
  rw [h0, h1, h2, h3, h4]
  exact (result_eq m c (hpre c)).symm

end Cert.Proof.Ring

end
-- ==== Proof.lean ====
/-
  The claims, assembled: the kernel's run gives the frames, the reference's own run gives its frame, and the
  two results are the same array.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_inputs_fit
public import proofs.«01_k».proof.Proof.Gen.ReferenceIdeal.Run
public import proofs.«01_k».proof.Proof.Frames
public import proofs.«01_k».proof.Proof.Value

@[expose] public section

noncomputable section

namespace Cert.Proof

open Idealize.ShloMosaic Idealize.SL.Sem Cert.Kernel

theorem claim : Cert.Claim :=
  ⟨Cert.Kernel.Gen.facts, Cert.KernelIdeal.Gen.facts, Cert.ReferenceIdeal.Gen.facts, Cert.Pre_inputs_fit.Gen.facts,
    Ring.frame_bits, Ring.frame_ideal, fun m g _ => Ring.frame_ideal m g trivial, Ring.frame_reference,
    fun m g _ => Ring.frame_reference m g trivial, trivial, Ring.algebraic⟩

end Cert.Proof

end
